-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x1664 : Shape := ⟨3, ![6, 4096, 1664]⟩
abbrev S6x4096x1 : Shape := ⟨3, ![6, 4096, 1]⟩
abbrev S1664x2560 : Shape := ⟨2, ![1664, 2560]⟩
abbrev S2560 : Shape := ⟨1, ![2560]⟩
abbrev S24576x1664 : Shape := ⟨2, ![24576, 1664]⟩
abbrev S24576x1 : Shape := ⟨2, ![24576, 1]⟩
abbrev S1x2560 : Shape := ⟨2, ![1, 2560]⟩
abbrev S24576x2560 : Shape := ⟨2, ![24576, 2560]⟩
abbrev S1024x1664 : Shape := ⟨2, ![1024, 1664]⟩
abbrev S1024x1 : Shape := ⟨2, ![1024, 1]⟩
abbrev S1024x2560 : Shape := ⟨2, ![1024, 2560]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x1664 : Shape := ⟨2, ![512, 1664]⟩
abbrev S1664x256 : Shape := ⟨2, ![1664, 256]⟩
abbrev S1x256 : Shape := ⟨2, ![1, 256]⟩

abbrev nBuf : Space → Nat
  | .hbm => 12
  | .vmem => 15
  | .smem => 0
  | _ => 0

abbrev bufTy : (tb : Table) → Fin (tcTables nBuf tb) → BufTy
  | .hbm, ⟨0, _⟩ => ⟨S6x4096x1664, .fp8e4m3⟩
  | .hbm, ⟨1, _⟩ => ⟨S6x4096x1, .f32⟩
  | .hbm, ⟨2, _⟩ => ⟨S1664x2560, .fp8e4m3⟩
  | .hbm, ⟨3, _⟩ => ⟨S2560, .f32⟩
  | .hbm, ⟨4, _⟩ => ⟨S1664x2560, .fp8e4m3⟩
  | .hbm, ⟨5, _⟩ => ⟨S2560, .f32⟩
  | .hbm, ⟨6, _⟩ => ⟨S24576x1664, .fp8e4m3⟩
  | .hbm, ⟨7, _⟩ => ⟨S24576x1, .f32⟩
  | .hbm, ⟨8, _⟩ => ⟨S1x2560, .f32⟩
  | .hbm, ⟨9, _⟩ => ⟨S1x2560, .f32⟩
  | .hbm, ⟨10, _⟩ => ⟨S24576x2560, .fp8e4m3⟩
  | .hbm, ⟨11, _⟩ => ⟨S24576x1, .f32⟩
  | .local _ .vmem, ⟨0, _⟩ => ⟨S1024x1664, .fp8e4m3⟩
  | .local _ .vmem, ⟨1, _⟩ => ⟨S1024x1664, .fp8e4m3⟩
  | .local _ .vmem, ⟨2, _⟩ => ⟨S1024x1, .f32⟩
  | .local _ .vmem, ⟨3, _⟩ => ⟨S1024x1, .f32⟩
  | .local _ .vmem, ⟨4, _⟩ => ⟨S1664x2560, .fp8e4m3⟩
  | .local _ .vmem, ⟨5, _⟩ => ⟨S1x2560, .f32⟩
  | .local _ .vmem, ⟨6, _⟩ => ⟨S1664x2560, .fp8e4m3⟩
  | .local _ .vmem, ⟨7, _⟩ => ⟨S1x2560, .f32⟩
  | .local _ .vmem, ⟨8, _⟩ => ⟨S1024x2560, .fp8e4m3⟩
  | .local _ .vmem, ⟨9, _⟩ => ⟨S1024x2560, .fp8e4m3⟩
  | .local _ .vmem, ⟨10, _⟩ => ⟨S1024x1, .f32⟩
  | .local _ .vmem, ⟨11, _⟩ => ⟨S1024x1, .f32⟩
  | .local _ .vmem, ⟨12, _⟩ => ⟨S1024x2560, .f32⟩
  | .local _ .vmem, ⟨13, _⟩ => ⟨S1024x128, .f32⟩
  | .local _ .vmem, ⟨14, _⟩ => ⟨S1024x128, .f32⟩
  | _, _ => ⟨S6x4096x1664, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c24_i32 : BitVec 32 := 24#32
  let v0 : BitVec 1 := Scalar.cmpi .slt arg0 c24_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c24_i32_0 : BitVec 32 := 24#32
  let v3 : BitVec 1 := Scalar.cmpi .eq arg0 c24_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1664 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1664x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1664x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S6x4096x1664 : Shape := ⟨3, ![6, 4096, 1664]⟩
abbrev S6x4096x1 : Shape := ⟨3, ![6, 4096, 1]⟩
abbrev S1664x2560 : Shape := ⟨2, ![1664, 2560]⟩
abbrev S2560 : Shape := ⟨1, ![2560]⟩
abbrev S24576x1664 : Shape := ⟨2, ![24576, 1664]⟩
abbrev S24576x1 : Shape := ⟨2, ![24576, 1]⟩
abbrev S1x2560 : Shape := ⟨2, ![1, 2560]⟩
abbrev S24576x2560 : Shape := ⟨2, ![24576, 2560]⟩
abbrev S24576 : Shape := ⟨1, ![24576]⟩

abbrev nBuf : Space → Nat
  | .hbm => 12
  | .vmem => 8
  | .smem => 0
  | _ => 0

abbrev bufTy : (tb : Table) → Fin (tcTables nBuf tb) → BufTy
  | .hbm, ⟨0, _⟩ => ⟨S6x4096x1664, .fp8e4m3⟩
  | .hbm, ⟨1, _⟩ => ⟨S6x4096x1, .f32⟩
  | .hbm, ⟨2, _⟩ => ⟨S1664x2560, .fp8e4m3⟩
  | .hbm, ⟨3, _⟩ => ⟨S2560, .f32⟩
  | .hbm, ⟨4, _⟩ => ⟨S1664x2560, .fp8e4m3⟩
  | .hbm, ⟨5, _⟩ => ⟨S2560, .f32⟩
  | .hbm, ⟨6, _⟩ => ⟨S24576x1664, .fp8e4m3⟩
  | .hbm, ⟨7, _⟩ => ⟨S24576x1, .f32⟩
  | .hbm, ⟨8, _⟩ => ⟨S1x2560, .f32⟩
  | .hbm, ⟨9, _⟩ => ⟨S1x2560, .f32⟩
  | .hbm, ⟨10, _⟩ => ⟨S24576x2560, .fp8e4m3⟩
  | .hbm, ⟨11, _⟩ => ⟨S24576x1, .f32⟩
  | .local _ .vmem, ⟨0, _⟩ => ⟨S24576x1664, .fp8e4m3⟩
  | .local _ .vmem, ⟨1, _⟩ => ⟨S24576x1, .f32⟩
  | .local _ .vmem, ⟨2, _⟩ => ⟨S1664x2560, .fp8e4m3⟩
  | .local _ .vmem, ⟨3, _⟩ => ⟨S1x2560, .f32⟩
  | .local _ .vmem, ⟨4, _⟩ => ⟨S1664x2560, .fp8e4m3⟩
  | .local _ .vmem, ⟨5, _⟩ => ⟨S1x2560, .f32⟩
  | .local _ .vmem, ⟨6, _⟩ => ⟨S24576x2560, .fp8e4m3⟩
  | .local _ .vmem, ⟨7, _⟩ => ⟨S24576x1, .f32⟩
  | _, _ => ⟨S6x4096x1664, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x1664 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1664x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1664x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RunMid.lean ====
/- The kernel's body run at a grid point before the last. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1744000 in
/-- The pieces which the body's stores leave in each buffer at a grid point before the last (the matrix products of this point's block, and the
    codes of the block before), last store first, with the proof that the body runs from whole staging buffers to a state in which each buffer
    holds its pieces. The scratch buffers of the products and of the lane maxima are held at contents `xs0` and `xs1`. -/
noncomputable def runMid (c : Dev nD) (i : grid0.Coords) (arg1 : Memref sig .tc .vmem S1024x1664 .fp8e4m3) (harg1 : arg1.IsWhole) (arg2 : Memref sig .tc .vmem S1024x1 .f32) (harg2 : arg2.IsWhole) (arg3 : Memref sig .tc .vmem S1664x2560 .fp8e4m3) (harg3 : arg3.IsWhole) (arg4 : Memref sig .tc .vmem S1x2560 .f32) (harg4 : arg4.IsWhole) (arg5 : Memref sig .tc .vmem S1664x2560 .fp8e4m3) (harg5 : arg5.IsWhole) (arg6 : Memref sig .tc .vmem S1x2560 .f32) (harg6 : arg6.IsWhole) (arg7 : Memref sig .tc .vmem S1024x2560 .fp8e4m3) (harg7 : arg7.IsWhole) (arg8 : Memref sig .tc .vmem S1024x1 .f32) (harg8 : arg8.IsWhole) (arg9 : Memref sig .tc .vmem S1024x2560 .f32) (harg9 : arg9.IsWhole) (arg10 : Memref sig .tc .vmem S1024x128 .f32) (harg10 : arg10.IsWhole) (arg11 : Memref sig .tc .vmem S1024x128 .f32) (harg11 : arg11.IsWhole) (hc1 : k0_cond1 i = 1#1) (hc2 : ¬k0_cond2 i = 1#1)
    (x0 : Vec F S1024x1664 .fp8e4m3) (x1 : Vec F S1024x1 .f32) (x2 : Vec F S1664x2560 .fp8e4m3) (x3 : Vec F S1x2560 .f32) (x4 : Vec F S1664x2560 .fp8e4m3) (x5 : Vec F S1x2560 .f32) (xs0 : Vec F S1024x2560 .f32) (xs1 : Vec F S1024x128 .f32) :
    Σ' (L6 : List (View.Piece (Elt F) S1024x2560 .fp8e4m3)), Σ' (L7 : List (View.Piece (Elt F) S1024x1 .f32)), Σ' (LS0 : List (View.Piece (Elt F) S1024x2560 .f32)), Σ' (LS1 : List (View.Piece (Elt F) S1024x128 .f32)), { LT2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_swiglu_front i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_swiglu_front_eq_skeleton]; unfold cc0_swiglu_front_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Gen

end
-- ==== Proof.RunLast.lean ====
/- The kernel's body run at the last grid point. -/
module

public import proofs.«01_k».proof.Proof.RunMid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The same at the last grid point, where the body only quantises the block before: the products and the lane maxima stay as they are. -/
noncomputable def runLast (c : Dev nD) (i : grid0.Coords) (arg1 : Memref sig .tc .vmem S1024x1664 .fp8e4m3) (harg1 : arg1.IsWhole) (arg2 : Memref sig .tc .vmem S1024x1 .f32) (harg2 : arg2.IsWhole) (arg3 : Memref sig .tc .vmem S1664x2560 .fp8e4m3) (harg3 : arg3.IsWhole) (arg4 : Memref sig .tc .vmem S1x2560 .f32) (harg4 : arg4.IsWhole) (arg5 : Memref sig .tc .vmem S1664x2560 .fp8e4m3) (harg5 : arg5.IsWhole) (arg6 : Memref sig .tc .vmem S1x2560 .f32) (harg6 : arg6.IsWhole) (arg7 : Memref sig .tc .vmem S1024x2560 .fp8e4m3) (harg7 : arg7.IsWhole) (arg8 : Memref sig .tc .vmem S1024x1 .f32) (harg8 : arg8.IsWhole) (arg9 : Memref sig .tc .vmem S1024x2560 .f32) (harg9 : arg9.IsWhole) (arg10 : Memref sig .tc .vmem S1024x128 .f32) (harg10 : arg10.IsWhole) (arg11 : Memref sig .tc .vmem S1024x128 .f32) (harg11 : arg11.IsWhole) (hc1 : ¬k0_cond1 i = 1#1) (hc2 : k0_cond2 i = 1#1)
    (x0 : Vec F S1024x1664 .fp8e4m3) (x1 : Vec F S1024x1 .f32) (x2 : Vec F S1664x2560 .fp8e4m3) (x3 : Vec F S1x2560 .f32) (x4 : Vec F S1664x2560 .fp8e4m3) (x5 : Vec F S1x2560 .f32) (xs0 : Vec F S1024x2560 .f32) (xs1 : Vec F S1024x128 .f32) :
    Σ' (L6 : List (View.Piece (Elt F) S1024x2560 .fp8e4m3)), Σ' (L7 : List (View.Piece (Elt F) S1024x1 .f32)), Σ' (LS0 : List (View.Piece (Elt F) S1024x2560 .f32)), Σ' (LS1 : List (View.Piece (Elt F) S1024x128 .f32)), { LT2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ (∃ f, arg11.view.loc (c : Thread nD τ) ↦[arg11.view.set]{fullShare} arg11.view.writes (Elt F) f LT2)) -∗ K ⟨⟩))
          ⊢ wp frame (wpE (defs₀ (F := F)) Variants.none c none) E (cc0_swiglu_front i arg1 harg1 arg2 harg2 arg3 harg3 arg4 harg4 arg5 harg5 arg6 harg6 arg7 harg7 arg8 harg8 arg9 harg9 arg10 harg10 arg11 harg11) K } := by
  refine ⟨?_, ?_, [], [], ?_, fun E K => ?run⟩
  case run =>
    simp only [cc0_swiglu_front_eq_skeleton]; unfold cc0_swiglu_front_skel
    simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    iexists _; iexact HS2

end Cert.KernelIdeal.Gen

end
-- ==== Proof.FrameRun.lean ====
/- The kernel's frame: it ends, leaves its arguments as they were and every semaphore counter at zero, whatever the float type. Of the two outputs
   nothing is said here. -/
module

public import proofs.«01_k».proof.Proof.RunLast
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`. -/
abbrev stg0 (t : Fin cfg0.N) : Memref sig .tc .vmem S1024x1664 .fp8e4m3 := win0_0.stage (cfg0.slots t 0)
abbrev stg1 (t : Fin cfg0.N) : Memref sig .tc .vmem S1024x1 .f32 := win0_1.stage (cfg0.slots t 1)
abbrev stg2 (t : Fin cfg0.N) : Memref sig .tc .vmem S1664x2560 .fp8e4m3 := win0_2.stage (cfg0.slots t 2)
abbrev stg3 (t : Fin cfg0.N) : Memref sig .tc .vmem S1x2560 .f32 := win0_3.stage (cfg0.slots t 3)
abbrev stg4 (t : Fin cfg0.N) : Memref sig .tc .vmem S1664x2560 .fp8e4m3 := win0_4.stage (cfg0.slots t 4)
abbrev stg5 (t : Fin cfg0.N) : Memref sig .tc .vmem S1x2560 .f32 := win0_5.stage (cfg0.slots t 5)
abbrev stg6 (t : Fin cfg0.N) : Memref sig .tc .vmem S1024x2560 .fp8e4m3 := win0_6.stage (cfg0.slots t 6)
abbrev stg7 (t : Fin cfg0.N) : Memref sig .tc .vmem S1024x1 .f32 := win0_7.stage (cfg0.slots t 7)

/-- The three scratch buffers: the products of a block, their lane maxima, and the inverse scales. -/
abbrev scr0 : Memref sig .tc .vmem S1024x2560 .f32 := Memref.whole cc0_scratch0
abbrev scr1 : Memref sig .tc .vmem S1024x128 .f32 := Memref.whole cc0_scratch1
abbrev scr2 : Memref sig .tc .vmem S1024x128 .f32 := Memref.whole cc0_scratch2

/-- The region's invariant with the scratch buffers as memrefs at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The body's branches: the first is taken at every point but the last, -/
theorem cond1_iff : ∀ t : Fin cfg0.N, k0_cond1 (grid0.coords t) = 1#1 ↔ t.val < 24 :=
  (by decide +kernel : ∀ t : Fin grid0.N, k0_cond1 (grid0.coords t) = 1#1 ↔ t.val < 24)
/-- and the second at the last. -/
theorem cond2_iff : ∀ t : Fin cfg0.N, k0_cond2 (grid0.coords t) = 1#1 ↔ ¬ t.val < 24 :=
  (by decide +kernel : ∀ t : Fin grid0.N, k0_cond2 (grid0.coords t) = 1#1 ↔ ¬ t.val < 24)

/-- Proof data which name what the inputs' buffers hold and nothing else. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ _ := Pipeline.ΦA spec0 c
  q _ := fullShare
  owed _ := 0

/-- The outputs of which nothing is said. -/
def fgt : Fin 8 → Bool := fun w => w.val == 6 || w.val == 7

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d

/-- The body at point `t`, from its windows one by one to its windows one by one. -/
theorem fsound (c : Dev nD) (t : Fin cfg0.N) :
    iprop(Pipeline.ΦA spec0 c ∗ (fdats m 0 c).owesAt () t.castSucc
    ∗ (∃ d, owns (c : Thread nD τ) (stg0 t) fullShare ((fdats m 0 c).before 0 t d))
    ∗ (∃ d, owns (c : Thread nD τ) (stg1 t) fullShare ((fdats m 0 c).before 1 t d))
    ∗ (∃ d, owns (c : Thread nD τ) (stg2 t) fullShare ((fdats m 0 c).before 2 t d))
    ∗ (∃ d, owns (c : Thread nD τ) (stg3 t) fullShare ((fdats m 0 c).before 3 t d))
    ∗ (∃ d, owns (c : Thread nD τ) (stg4 t) fullShare ((fdats m 0 c).before 4 t d))
    ∗ (∃ d, owns (c : Thread nD τ) (stg5 t) fullShare ((fdats m 0 c).before 5 t d))
    ∗ (∃ d, owns (c : Thread nD τ) (stg6 t) fullShare d)
    ∗ (∃ d, owns (c : Thread nD τ) (stg7 t) fullShare d))
    ⊢ wp frame (wpE (defs₀ (F := F)) Variants.none c none) Set.univ (bodyAt0 t) (fun _ => iprop(Pipeline.ΦA spec0 c ∗ (fdats m 0 c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ (∃ d, owns (c : Thread nD τ) (stg6 t) fullShare d)
    ∗ (∃ d, owns (c : Thread nD τ) (stg7 t) fullShare d))) := by
  unfold bodyAt0
  simp only [fbefore_0, fbefore_1, fbefore_2, fbefore_3, fbefore_4, fbefore_5]
  rw [PhiA_eq]
  by_cases h1 : t.val < 24
  · have h2 : ¬ k0_cond2 (grid0.coords t) = 1#1 := fun h => (cond2_iff t).mp h h1
    iintro ⟨⟨⟨⟨%s0, HS0⟩, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runMid c (grid0.coords t) _ _ _ _ _ _ _ _ _ _ _ _ _ _ _ _ _ _ _ _ _ _ ((cond1_iff t).mpr h1) h2 (iblk m c 0 t) (iblk m c 1 t) (iblk m c 2 t) (iblk m c 3 t) (iblk m c 4 t) (iblk m c 5 t) s0 s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, ⟨%es0, HS0⟩, ⟨%es1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr
      swap; · iexact H6
      ipureintro; rfl
    iexists _; unfold owns; iexists _; isplitr
    swap; · iexact H7
    ipureintro; rfl
  · have h2 : ¬ k0_cond1 (grid0.coords t) = 1#1 := fun h => h1 ((cond1_iff t).mp h)
    iintro ⟨⟨⟨⟨%s0, HS0⟩, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLast c (grid0.coords t) _ _ _ _ _ _ _ _ _ _ _ _ _ _ _ _ _ _ _ _ _ _ h2 ((cond2_iff t).mpr h1) (iblk m c 0 t) (iblk m c 1 t) (iblk m c 2 t) (iblk m c 3 t) (iblk m c 4 t) (iblk m c 5 t) s0 s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, HS0, HS1, ⟨%fT2, HS2⟩⟩
    isplitl [HS0 HS1 HS2 Hg]
    · isplitl [HS0 HS1 HS2]
      · isplitl [HS0]
        · iexists _; iexact HS0
        isplitl [HS1]
        · iexists _; iexact HS1
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr
      swap; · iexact H6
      ipureintro; rfl
    iexists _; unfold owns; iexists _; isplitr
    swap; · iexact H7
    ipureintro; rfl

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem fbody (c : Dev nD) : Pipeline.BodyObligationLoose (fdats (F := F) m 0 c) (defs₀ (F := F)) Variants.none () Set.univ fgt := fun t => by
  rw [bigSep_W0, bigSep_W0, defs₀_row]
  exact triple_restated (fsound m c t) rfl .rfl fun _ => .rfl

set_option backward.isDefEq.respectTransparency.types false in
/-- The run of `main`: what the inputs' arrays and the buffers outside the region hold at the end, and the counters. -/
theorem frun : θ_run defs (onTc (τ := τ) (main (F := F))) (s₀ m ρ) (fun r => Pipeline.RDat.FramePost cfg0 (fun c => (fdats m 0 c).toRForget fgt) (V m) r ∧ r.2.sem = fun _ => 0) :=
  Pipeline.θ_run_frame_track_forget (Q' := _) cfgs (fdats m) (0 : Fin 1) launch0 defs₀ Variants.none fgt m ρ main
    (hbody := fun c => fbody m c) (hshare := fun c => (fdats m 0 c).share_full fun _ => rfl)
    (howed := fun _ _ => rfl) (V := V m) (hmain := hmain m Variants.none) (hA := fA_eq m) (hin := fun _ => .rfl) (hout := fun _ => .rfl)

/-- The kernel ends with its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((fA_eq m c 2).trans (V_main_arg2 m c)),
      ((h.1 c).2 main_arg3 (Pipeline.mem_restRefs_of main_arg3 (by decide) (by decide))).trans (V_main_arg3 m c),
      (h.1.arr_in c 4 rfl).trans ((fA_eq m c 4).trans (V_main_arg4 m c)),
      ((h.1 c).2 main_arg5 (Pipeline.mem_restRefs_of main_arg5 (by decide) (by decide))).trans (V_main_arg5 m c)⟩, h.2⟩) (frun m ρ)

end Cert.KernelIdeal.Gen

end
-- ==== Proof.Model.lean ====
/- What the kernel's body computes of its tiles, over the extended reals: the products of one tile, the lane maxima of one tile, the codes of one
   tile, and the inverse scales of one half of a block, each at an index. -/
module

public import proofs.«01_k».proof.Proof.Gen.KernelIdeal.Skeleton
public import Idealize.ShloMosaic.Lib.Pointwise
public import Idealize.ShloMosaic.Lib.Pipeline.FrameBody
public import Idealize.ShloMosaic.Lib.Pipeline.ReadBack
public import Idealize.ShloMosaic.PureOps.Ideal.Laws

@[expose] public section

set_option maxRecDepth 16384

noncomputable section

namespace Cert.KernelIdeal.Gen

open Idealize.ShloMosaic Idealize.ShloMosaic.TcCoe Idealize.ShloMosaic.Tactic

/-- One element of the product `silu(gate) * up`, from a token's codes and scale, a column's weight codes of either matrix, and the column's two
    scales. -/
def hval (x : Fin 1664 → EReal) (s : EReal) (wg wu : Fin 1664 → EReal) (gs us : EReal) : EReal :=
  (∑ k, x k * wg k) * s * gs * Ideal.div 1 (1 + Ideal.exp (0 - (∑ k, x k * wg k) * s * gs)) * ((∑ k, x k * wu k) * s * us)

/-- The products of a block of 1024 tokens. -/
def HB (x0 : Vec Ideal S1024x1664 .fp8e4m3) (x1 : Vec Ideal S1024x1 .f32) (x2 : Vec Ideal S1664x2560 .fp8e4m3) (x3 : Vec Ideal S1x2560 .f32)
    (x4 : Vec Ideal S1664x2560 .fp8e4m3) (x5 : Vec Ideal S1x2560 .f32) : Vec Ideal S1024x2560 .f32 := fun y =>
  hval (fun k => x0 (ix2 (y 0) k)) (x1 (ix2 (y 0) 0)) (fun k => x2 (ix2 k (y 1))) (fun k => x4 (ix2 k (y 1))) (x3 (ix2 0 (y 1))) (x5 (ix2 0 (y 1)))

/-- What a load through a rectangle reads of a whole buffer, at an index. -/
theorem rd_apply {κ : Kind} {sp : Space} {s : Shape} {e : EltTy} (a : Memref sig κ sp s e) (ha : a.IsWhole) (x : Vec Ideal s e) (r : Rect s) :
    a.view.readAt (Elt Ideal) r.toLoadRect (ha.unread x) = View.ld (Val := Elt Ideal) x r := by
  rw [View.readAt_eq_ld, ha.read_unread]

section Tiles

variable (arg1 : Memref sig .tc .vmem S1024x1664 .fp8e4m3) (harg1 : arg1.IsWhole) (arg2 : Memref sig .tc .vmem S1024x1 .f32) (harg2 : arg2.IsWhole)
  (arg3 : Memref sig .tc .vmem S1664x2560 .fp8e4m3) (harg3 : arg3.IsWhole) (arg4 : Memref sig .tc .vmem S1x2560 .f32) (harg4 : arg4.IsWhole)
  (arg5 : Memref sig .tc .vmem S1664x2560 .fp8e4m3) (harg5 : arg5.IsWhole) (arg6 : Memref sig .tc .vmem S1x2560 .f32) (harg6 : arg6.IsWhole)
  (x0 : Vec Ideal S1024x1664 .fp8e4m3) (x1 : Vec Ideal S1024x1 .f32) (x2 : Vec Ideal S1664x2560 .fp8e4m3) (x3 : Vec Ideal S1x2560 .f32)
  (x4 : Vec Ideal S1664x2560 .fp8e4m3) (x5 : Vec Ideal S1x2560 .f32)

/-- The products of the tile of 512 tokens from `r` and 256 columns from `q`, as the body computes them from what it loads. -/
def hTile (r q : ℕ) (i1 : ∀ a, ![r, 0] a + ![512, 1664] a ≤ S1024x1664.size a) (i2 : ∀ a, ![r, 0] a + ![512, 1] a ≤ S1024x1.size a)
    (i3 : ∀ a, ![0, q] a + ![1664, 256] a ≤ S1664x2560.size a) (i4 : ∀ a, ![0, q] a + ![1, 256] a ≤ S1x2560.size a) : FVec Ideal S512x256 .f32 :=
  k0_pay30 (arg1.view.readAt (Elt Ideal) (Rect.unit (s := S1024x1664) ![r, 0] ![512, 1664] i1).toLoadRect (harg1.unread x0))
    (arg2.view.readAt (Elt Ideal) (Rect.unit (s := S1024x1) ![r, 0] ![512, 1] i2).toLoadRect (harg2.unread x1))
    (arg3.view.readAt (Elt Ideal) (Rect.unit (s := S1664x2560) ![0, q] ![1664, 256] i3).toLoadRect (harg3.unread x2))
    (arg5.view.readAt (Elt Ideal) (Rect.unit (s := S1664x2560) ![0, q] ![1664, 256] i3).toLoadRect (harg5.unread x4))
    (arg4.view.readAt (Elt Ideal) (Rect.unit (s := S1x2560) ![0, q] ![1, 256] i4).toLoadRect (harg4.unread x3))
    (arg6.view.readAt (Elt Ideal) (Rect.unit (s := S1x2560) ![0, q] ![1, 256] i4).toLoadRect (harg6.unread x5))

/-- They are the block's products at the tile's indices. -/
theorem hTile_apply (r q : ℕ) (i1 : ∀ a, ![r, 0] a + ![512, 1664] a ≤ S1024x1664.size a) (i2 : ∀ a, ![r, 0] a + ![512, 1] a ≤ S1024x1.size a)
    (i3 : ∀ a, ![0, q] a + ![1664, 256] a ≤ S1664x2560.size a) (i4 : ∀ a, ![0, q] a + ![1, 256] a ≤ S1x2560.size a) (i : Fin 512) (j : Fin 256)
    (hr : r + i.val < 1024) (hq : q + j.val < 2560) :
    hTile arg1 harg1 arg2 harg2 arg3 harg3 arg4 harg4 arg5 harg5 arg6 harg6 x0 x1 x2 x3 x4 x5 r q i1 i2 i3 i4 (ix2 i j)
      = HB x0 x1 x2 x3 x4 x5 (ix2 ⟨r + i.val, hr⟩ ⟨q + j.val, hq⟩) := by
  unfold hTile
  simp only [rd_apply]
  pointwise [k0_pay30, HB, hval]

/-- The same as a piece stored in the buffer of the products. -/
theorem hTile_piece (r q : ℕ) (i1 : ∀ a, ![r, 0] a + ![512, 1664] a ≤ S1024x1664.size a) (i2 : ∀ a, ![r, 0] a + ![512, 1] a ≤ S1024x1.size a)
    (i3 : ∀ a, ![0, q] a + ![1664, 256] a ≤ S1664x2560.size a) (i4 : ∀ a, ![0, q] a + ![1, 256] a ≤ S1x2560.size a)
    (ib : ∀ a, ![r, q] a + ![512, 256] a ≤ S1024x2560.size a) (y : (Rect.unit (s := S1024x2560) ![r, q] ![512, 256] ib).shape.Idx) :
    k0_pay1 (hTile arg1 harg1 arg2 harg2 arg3 harg3 arg4 harg4 arg5 harg5 arg6 harg6 x0 x1 x2 x3 x4 x5 r q i1 i2 i3 i4) y
      = HB x0 x1 x2 x3 x4 x5 ((Rect.unit (s := S1024x2560) ![r, q] ![512, 256] ib).emb y) := by
  obtain ⟨i, j, rfl⟩ : ∃ (i : Fin 512) (j : Fin 256), y = ix2 i j := ⟨y 0, y 1, eq_ix2 y⟩
  have hr : r + i.val < 1024 := by have h0 : r + 512 ≤ 1024 := ib 0
                                   omega
  have hq : q + j.val < 2560 := by have h1 : q + 256 ≤ 2560 := ib 1
                                   omega
  have e : (Rect.unit (s := S1024x2560) ![r, q] ![512, 256] ib).emb (ix2 i j) = ix2 ⟨r + i.val, hr⟩ ⟨q + j.val, hq⟩ := by
    show (Rect.unit (s := S1024x2560) ![r, q] ![512, 256] ib).toLoadRect.idx (ix2 i j) = _
    pointwise []
  rw [e, ← hTile_apply arg1 harg1 arg2 harg2 arg3 harg3 arg4 harg4 arg5 harg5 arg6 harg6 x0 x1 x2 x3 x4 x5 r q i1 i2 i3 i4 i j hr hq]
  pointwise [k0_pay1]

/-- Row `p` of a block, its columns numbered by naturals. -/
def rowN (h : Vec Ideal S1024x2560 .f32) (p q : ℕ) : EReal := if hh : p < 1024 ∧ q < 2560 then h (ix2 ⟨p, hh.1⟩ ⟨q, hh.2⟩) else 0

theorem rowN_of (h : Vec Ideal S1024x2560 .f32) (p q : ℕ) (hp : p < 1024) (hq : q < 2560) : rowN h p q = h (ix2 ⟨p, hp⟩ ⟨q, hq⟩) := dif_pos ⟨hp, hq⟩

/-- The greatest absolute value at lane `l` of column tile `c`. -/
def laneN (hq : ℕ → EReal) (l c : ℕ) : EReal := max (FloatOps.absf (F := Ideal) (φ := .f32) (hq (256 * c + l))) (FloatOps.absf (F := Ideal) (φ := .f32) (hq (256 * c + 128 + l)))

/-- The greatest absolute value at lane `l` of the column tiles up to `c`. -/
def amN (hq : ℕ → EReal) (l : ℕ) : ℕ → EReal
  | 0 => laneN hq l 0
  | c + 1 => max (amN hq l c) (laneN hq l (c + 1))

/-- The lane maxima of a block: at lane `l`, the greatest absolute value of the columns whose number is `l` modulo 128. -/
def AMB (h : Vec Ideal S1024x2560 .f32) : Vec Ideal S1024x128 .f32 := fun y => amN (rowN h (y 0).val) (y 1).val 9

/-- The lane maxima of a row's first tile. -/
def amFirst (h : FVec Ideal S512x256 .f32) : FVec Ideal S512x128 .f32 :=
  shapeCast S512x128 (maximumf (absf (extractStridedSlice S512x128 ![0, 0] h slices_S512x256_o0_0_S512x128))
    (absf (extractStridedSlice S512x128 ![0, 128] h slices_S512x256_o0_128_S512x128))) shapeCasts_S512x128_S512x128

section Lanes

variable (r : ℕ) (i1 : ∀ a, ![r, 0] a + ![512, 1664] a ≤ S1024x1664.size a) (i2 : ∀ a, ![r, 0] a + ![512, 1] a ≤ S1024x1.size a)
  (hr : r ≤ 512)

include hr

/-- The lane maxima of a row's first tile at an index, -/
theorem amFirst_apply (i3 : ∀ a, ![0, 0] a + ![1664, 256] a ≤ S1664x2560.size a) (i4 : ∀ a, ![0, 0] a + ![1, 256] a ≤ S1x2560.size a) (i : Fin 512) (l : Fin 128) :
    amFirst (hTile arg1 harg1 arg2 harg2 arg3 harg3 arg4 harg4 arg5 harg5 arg6 harg6 x0 x1 x2 x3 x4 x5 r 0 i1 i2 i3 i4) (ix2 i l)
      = amN (rowN (HB x0 x1 x2 x3 x4 x5) (r + i.val)) l.val 0 := by
  pointwise [amFirst, amN, laneN]
  rw [hTile_apply (hr := by omega) (hq := by simp only []; omega), hTile_apply (hr := by omega) (hq := by simp only []; omega), rowN_of _ _ _ (by omega) (by omega),
    rowN_of _ _ _ (by omega) (by omega)]
  simp only [Nat.mul_zero, Nat.zero_add]

/-- and of each further tile, joined with those of the tiles before. -/
theorem amNext_apply (c q : ℕ) (hc : q = 256 * (c + 1)) (hc' : c < 9) (i3 : ∀ a, ![0, q] a + ![1664, 256] a ≤ S1664x2560.size a)
    (i4 : ∀ a, ![0, q] a + ![1, 256] a ≤ S1x2560.size a) (prev : Vec Ideal S512x128 .f32) (i : Fin 512) (l : Fin 128)
    (hp : prev (ix2 i l) = amN (rowN (HB x0 x1 x2 x3 x4 x5) (r + i.val)) l.val c) :
    k0_pay2 (hTile arg1 harg1 arg2 harg2 arg3 harg3 arg4 harg4 arg5 harg5 arg6 harg6 x0 x1 x2 x3 x4 x5 r q i1 i2 i3 i4) prev (ix2 i l)
      = amN (rowN (HB x0 x1 x2 x3 x4 x5) (r + i.val)) l.val (c + 1) := by
  subst hc
  pointwise [k0_pay2, amN, laneN]
  rw [hTile_apply (hr := by omega) (hq := by simp only []; omega), hTile_apply (hr := by omega) (hq := by simp only []; omega), rowN_of _ _ _ (by omega) (by omega),
    rowN_of _ _ _ (by omega) (by omega), hp]
  simp only [Nat.add_assoc]

end Lanes

end Tiles

/-! ## The scales -/

/-- One step of the search for the exponent: the bit is kept if the power of two with the exponent so far is at most `t`. -/
def stepS (t : EReal) (e b : BitVec 32) : BitVec 32 :=
  Scalar.select (FloatOps.cmpf (F := Ideal) (φ := .f32) .oge t (Ideal.ofBits .f32 (IntOp.shli .vector (IntOp.addi e b) 23#32))) (IntOp.addi e b) e

/-- The biased exponent that the search finds, 255 above the cut-off. -/
def expS (t : EReal) : BitVec 32 :=
  Scalar.select (FloatOps.cmpf (F := Ideal) (φ := .f32) .oge t (Ideal.ofBits .f32 0x7B800000#32)) 255#32
    (stepS t (stepS t (stepS t (stepS t (stepS t (stepS t (stepS t (stepS t 0#32 128#32) 64#32) 32#32) 16#32) 8#32) 4#32) 2#32) 1#32)

/-- The exponent of the scale. -/
def eS (t : EReal) : BitVec 32 :=
  Scalar.select (IntOp.ori (IntOp.cmpi .eq (expS t) 0#32) (IntOp.cmpi .eq (expS t) 255#32)) 0#32 (IntOp.subi (expS t) 126#32)

/-- The scale and its inverse, as the body forms them from the quotient `t` of a row's greatest absolute value. -/
def scaleS (t : EReal) : EReal := Ideal.ofBits .f32 (IntOp.shli .vector (IntOp.addi 127#32 (eS t)) 23#32)
def invS (t : EReal) : EReal := Ideal.ofBits .f32 (IntOp.shli .vector (IntOp.subi 127#32 (eS t)) 23#32)

/-- The quotient of row `p`'s greatest absolute value, from the lane maxima. -/
def tS (am : Vec Ideal S1024x128 .f32) (p : Fin 1024) : EReal :=
  Finset.fold max (Ideal.ofBits .f32 0xFF800000#32) (fun l => am (ix2 p l)) Finset.univ * Ideal.ofBits .f32 0x3B124925#32

/-- The scales and the codes of a block, from its lane maxima and its products. -/
def SB (am : Vec Ideal S1024x128 .f32) : Vec Ideal S1024x1 .f32 := fun y => scaleS (tS am (y 0))
def QB (h : Vec Ideal S1024x2560 .f32) (am : Vec Ideal S1024x128 .f32) : Vec Ideal S1024x2560 .fp8e4m3 := fun y =>
  min (Ideal.ofBits .f32 0x43E00000#32) (max (Ideal.ofBits .f32 0xC3E00000#32) (h y * invS (tS am (y 0))))

section Scales

variable (arg10 : Memref sig .tc .vmem S1024x128 .f32) (harg10 : arg10.IsWhole) (am : Vec Ideal S1024x128 .f32)
  (r : ℕ) (ia : ∀ a, ![r, 0] a + ![512, 128] a ≤ S1024x128.size a)

/-- The lane maxima of half a block, as loaded. -/
abbrev amRd : Vec Ideal S512x128 .f32 := arg10.view.readAt (Elt Ideal) (Rect.unit (s := S1024x128) ![r, 0] ![512, 128] ia).toLoadRect (harg10.unread am)

theorem pay5_apply (i : Fin 512) (hr : r + i.val < 1024) : k0_pay5 (amRd arg10 harg10 am r ia) (ix2 i 0) = tS am ⟨r + i.val, hr⟩ := by
  simp only [rd_apply]
  pointwise [k0_pay5, tS]

/-- One step of the search, of vectors, at an index. -/
theorem step_apply (a : FVec Ideal S512x1 .f32) (e b c : IVec S512x1 32) (y : S512x1.Idx) (hc : c y = 23#32) :
    select (cmpf .oge a (bitcastToFloat .f32 (shli (addi e b) c))) (addi e b) e y = stepS (a y) (e y) (b y) := by
  show Scalar.select (FloatOps.cmpf (F := Ideal) (φ := .f32) .oge (a y) (Ideal.ofBits .f32 (IntOp.shli .vector (IntOp.addi (e y) (b y)) (c y)))) (IntOp.addi (e y) (b y)) (e y) = _
  rw [hc]
  rfl

/-- The exponent of the scale at an index. -/
theorem pay6_scalar (v : Vec Ideal S512x128 .f32) (y : S512x1.Idx) :
    k0_pay6 v y = stepS (k0_pay5 v y) (stepS (k0_pay5 v y) (stepS (k0_pay5 v y) (stepS (k0_pay5 v y) (stepS (k0_pay5 v y) 0#32 128#32) 64#32) 32#32) 16#32) 8#32 := by
  unfold k0_pay6
  generalize k0_pay5 v = a
  refine (step_apply a _ _ _ y rfl).trans ?_
  refine congrArg (fun e => stepS (a y) e 8#32) ?_
  refine (step_apply a _ _ _ y rfl).trans ?_
  refine congrArg (fun e => stepS (a y) e 16#32) ?_
  refine (step_apply a _ _ _ y rfl).trans ?_
  refine congrArg (fun e => stepS (a y) e 32#32) ?_
  refine (step_apply a _ _ _ y rfl).trans ?_
  refine congrArg (fun e => stepS (a y) e 64#32) ?_
  exact step_apply a _ _ _ y rfl

theorem pay8_scalar (v : Vec Ideal S512x128 .f32) (y : S512x1.Idx) :
    k0_pay8 (k0_pay5 v) (k0_pay6 v) (k0_pay7 v) 23#32 y = eS (k0_pay5 v y) := by
  have h7 : k0_pay7 v = addi (k0_pay6 v) (broadcast S512x1 4#32) := rfl
  rw [h7]
  have h6 := pay6_scalar v y
  unfold k0_pay8 eS expS
  rw [← h6]
  generalize k0_pay5 v = a
  generalize k0_pay6 v = e
  have key : ∀ (s : IVec S512x1 32) (x : BitVec 32), s y = x →
      select (ori (cmpi .eq (select (cmpf .oge a (broadcast S512x1 (Scalar.ofBits .f32 0x7B800000#32))) (broadcast S512x1 255#32) s) (broadcast S512x1 0#32))
        (cmpi .eq (select (cmpf .oge a (broadcast S512x1 (Scalar.ofBits .f32 0x7B800000#32))) (broadcast S512x1 255#32) s) (broadcast S512x1 255#32)))
        (broadcast S512x1 0#32) (subi (select (cmpf .oge a (broadcast S512x1 (Scalar.ofBits .f32 0x7B800000#32))) (broadcast S512x1 255#32) s) (broadcast S512x1 126#32)) y
      = Scalar.select (IntOp.ori (IntOp.cmpi .eq (Scalar.select (FloatOps.cmpf (F := Ideal) (φ := .f32) .oge (a y) (Ideal.ofBits .f32 0x7B800000#32)) 255#32 x) 0#32)
          (IntOp.cmpi .eq (Scalar.select (FloatOps.cmpf (F := Ideal) (φ := .f32) .oge (a y) (Ideal.ofBits .f32 0x7B800000#32)) 255#32 x) 255#32)) 0#32
          (IntOp.subi (Scalar.select (FloatOps.cmpf (F := Ideal) (φ := .f32) .oge (a y) (Ideal.ofBits .f32 0x7B800000#32)) 255#32 x) 126#32) := by
    rintro s x rfl
    rfl
  refine key _ _ ?_
  refine (step_apply a _ _ _ y rfl).trans ?_
  refine congrArg (fun e => stepS (a y) e 1#32) ?_
  refine (step_apply a _ _ _ y rfl).trans ?_
  refine congrArg (fun e => stepS (a y) e 2#32) ?_
  exact step_apply a _ _ _ y rfl

theorem scale_scalar (v : Vec Ideal S512x128 .f32) (y : S512x1.Idx) :
    k0_pay9 (k0_pay5 v) (k0_pay6 v) (k0_pay7 v) 23#32 y = scaleS (k0_pay5 v y) := by
  unfold scaleS
  rw [← pay8_scalar]
  unfold k0_pay9
  generalize k0_pay8 (k0_pay5 v) (k0_pay6 v) (k0_pay7 v) 23#32 = e
  rfl

theorem inv_scalar (v : Vec Ideal S512x128 .f32) (y : S512x1.Idx) :
    k0_pay10 (k0_pay5 v) (k0_pay6 v) (k0_pay7 v) 23#32 y = invS (k0_pay5 v y) := by
  unfold invS
  rw [← pay8_scalar]
  unfold k0_pay10
  generalize k0_pay8 (k0_pay5 v) (k0_pay6 v) (k0_pay7 v) 23#32 = e
  rfl

/-- The scales of half a block, as stored. -/
theorem scale_piece (ib : ∀ a, ![r, 0] a + ![512, 1] a ≤ S1024x1.size a) (y : (Rect.unit (s := S1024x1) ![r, 0] ![512, 1] ib).shape.Idx) :
    k0_pay9 (k0_pay5 (amRd arg10 harg10 am r ia)) (k0_pay6 (amRd arg10 harg10 am r ia)) (k0_pay7 (amRd arg10 harg10 am r ia)) 23#32 y
      = SB am ((Rect.unit (s := S1024x1) ![r, 0] ![512, 1] ib).emb y) := by
  obtain ⟨i, j, rfl⟩ : ∃ (i : Fin 512) (j : Fin 1), y = ix2 i j := ⟨y 0, y 1, eq_ix2 y⟩
  obtain rfl : j = 0 := Subsingleton.elim _ _
  have hr : r + i.val < 1024 := by have h0 : r + 512 ≤ 1024 := ib 0
                                   omega
  have e : (Rect.unit (s := S1024x1) ![r, 0] ![512, 1] ib).emb (ix2 i 0) = ix2 ⟨r + i.val, hr⟩ 0 := by
    show (Rect.unit (s := S1024x1) ![r, 0] ![512, 1] ib).toLoadRect.idx (ix2 i 0) = _
    pointwise []
  rw [e, scale_scalar, pay5_apply arg10 harg10 am r ia i hr]
  rfl

/-- The inverse scales of half a block, spread over the lanes. -/
abbrev invT : FVec Ideal S512x128 .f32 :=
  k0_pay11 (k0_pay10 (k0_pay5 (amRd arg10 harg10 am r ia)) (k0_pay6 (amRd arg10 harg10 am r ia)) (k0_pay7 (amRd arg10 harg10 am r ia)) 23#32)

theorem invT_apply (i : Fin 512) (l : Fin 128) (hr : r + i.val < 1024) : invT arg10 harg10 am r ia (ix2 i l) = invS (tS am ⟨r + i.val, hr⟩) := by
  unfold invT
  pointwise [k0_pay11]
  rw [inv_scalar, pay5_apply arg10 harg10 am r ia i hr]

/-- The codes of a tile, as stored. -/
theorem codes_piece (arg9 : Memref sig .tc .vmem S1024x2560 .f32) (harg9 : arg9.IsWhole) (h : Vec Ideal S1024x2560 .f32) (q : ℕ)
    (ib : ∀ a, ![r, q] a + ![512, 256] a ≤ S1024x2560.size a) (y : (Rect.unit (s := S1024x2560) ![r, q] ![512, 256] ib).shape.Idx) :
    k0_pay20 (invT arg10 harg10 am r ia) (arg9.view.readAt (Elt Ideal) (Rect.unit (s := S1024x2560) ![r, q] ![512, 256] ib).toLoadRect (harg9.unread h)) y
      = QB h am ((Rect.unit (s := S1024x2560) ![r, q] ![512, 256] ib).emb y) := by
  obtain ⟨i, j, rfl⟩ : ∃ (i : Fin 512) (j : Fin 256), y = ix2 i j := ⟨y 0, y 1, eq_ix2 y⟩
  have hr : r + i.val < 1024 := by have h0 : r + 512 ≤ 1024 := ib 0
                                   omega
  have hq : q + j.val < 2560 := by have h1 : q + 256 ≤ 2560 := ib 1
                                   omega
  have e : (Rect.unit (s := S1024x2560) ![r, q] ![512, 256] ib).emb (ix2 i j) = ix2 ⟨r + i.val, hr⟩ ⟨q + j.val, hq⟩ := by
    show (Rect.unit (s := S1024x2560) ![r, q] ![512, 256] ib).toLoadRect.idx (ix2 i j) = _
    pointwise []
  rw [e]
  generalize hv : invT arg10 harg10 am r ia = v
  simp only [rd_apply]
  pointwise [k0_pay20, QB]
  subst hv
  split <;> rw [invT_apply (hr := hr)]

end Scales

end Cert.KernelIdeal.Gen
end
-- ==== Proof.RunValue.lean ====
/- What the body leaves in each buffer at a grid point, over the extended reals: before the last point the products of the point's block, their lane
   maxima, and the codes and scales of the block before; at the last point the codes and scales of the last block. -/
module

public import proofs.«01_k».proof.Proof.RunMid
public import proofs.«01_k».proof.Proof.RunLast
public import proofs.«01_k».proof.Proof.Model
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.UnfoldOut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Stores that are blocks of `G` and cover the shape leave `G`. -/
theorem read_writes_of_pieces {κ : Kind} {sp : Space} {s : Shape} {e : EltTy} (v : View sig κ sp s e) (f : v.ty.Contents (Elt Ideal)) (L : List (View.Piece (Elt Ideal) s e))
    (G : s.Idx → Elt Ideal e) (hG : View.PiecesOf G L) (hc : ∀ y, ∃ p ∈ L, y ∈ p.1.set) : v.read (Elt Ideal) (v.writes (Elt Ideal) f L) = G := by
  rw [View.read_writes_eq_canon v f L hc]
  funext y
  have h := View.canon_append_of_piecesOf G [] L hG y (hc y)
  rwa [List.append_nil] at h

/-- The same where earlier stores lie below those that cover the shape. -/
theorem read_writes_of_pieces_append {κ : Kind} {sp : Space} {s : Shape} {e : EltTy} (v : View sig κ sp s e) (f : v.ty.Contents (Elt Ideal))
    (L L' : List (View.Piece (Elt Ideal) s e)) (G : s.Idx → Elt Ideal e) (hG : View.PiecesOf G L) (hc : ∀ y, ∃ p ∈ L, y ∈ p.1.set) :
    v.read (Elt Ideal) (v.writes (Elt Ideal) f (L ++ L')) = G := by
  rw [View.read_writes_eq_canon v f (L ++ L') (fun y => by obtain ⟨p, hp, hy⟩ := hc y; exact ⟨p, List.mem_append_left _ hp, hy⟩)]
  funext y
  exact View.canon_append_of_piecesOf G L' L hG y (hc y)

/-- The codes of a tile, the inverse scales being those read back. -/
theorem codes_piece_of (arg10 : Memref sig .tc .vmem S1024x128 .f32) (harg10 : arg10.IsWhole) (am : Vec Ideal S1024x128 .f32)
    (r : ℕ) (ia : ∀ a, ![r, 0] a + ![512, 128] a ≤ S1024x128.size a) (arg9 : Memref sig .tc .vmem S1024x2560 .f32) (harg9 : arg9.IsWhole) (h : Vec Ideal S1024x2560 .f32) (q : ℕ)
    (ib : ∀ a, ![r, q] a + ![512, 256] a ≤ S1024x2560.size a) (v : Vec Ideal S512x128 .f32) (hv : v = invT arg10 harg10 am r ia)
    (y : (Rect.unit (s := S1024x2560) ![r, q] ![512, 256] ib).shape.Idx) :
    k0_pay20 v (arg9.view.readAt (Elt Ideal) (Rect.unit (s := S1024x2560) ![r, q] ![512, 256] ib).toLoadRect (harg9.unread h)) y
      = QB h am ((Rect.unit (s := S1024x2560) ![r, q] ![512, 256] ib).emb y) := by
  subst hv; exact codes_piece arg10 harg10 am r ia arg9 harg9 h q ib y

/-- The lane maxima of half a block as a piece. -/
theorem am_piece (h : Vec Ideal S1024x2560 .f32) (r : ℕ) (ia : ∀ a, ![r, 0] a + ![512, 128] a ≤ S1024x128.size a)
    (p : (Rect.unit (s := S1024x128) ![r, 0] ![512, 128] ia).shape.Idx → EReal)
    (hp : ∀ (i : Fin 512) (l : Fin 128), p (ix2 i l) = amN (rowN h (r + i.val)) l.val 9) (y : (Rect.unit (s := S1024x128) ![r, 0] ![512, 128] ia).shape.Idx) :
    p y = AMB h ((Rect.unit (s := S1024x128) ![r, 0] ![512, 128] ia).emb y) := by
  obtain ⟨i, j, rfl⟩ : ∃ (i : Fin 512) (j : Fin 128), y = ix2 i j := ⟨y 0, y 1, eq_ix2 y⟩
  have hr : r + i.val < 1024 := by have h0 : r + 512 ≤ 1024 := ia 0
                                   omega
  have e : (Rect.unit (s := S1024x128) ![r, 0] ![512, 128] ia).emb (ix2 i j) = ix2 ⟨r + i.val, hr⟩ j := by
    show (Rect.unit (s := S1024x128) ![r, 0] ![512, 128] ia).toLoadRect.idx (ix2 i j) = _
    pointwise []
  rw [e]; exact hp i j

section Mid

variable (c : Dev nD) (i : grid0.Coords) (arg1 : Memref sig .tc .vmem S1024x1664 .fp8e4m3) (harg1 : arg1.IsWhole) (arg2 : Memref sig .tc .vmem S1024x1 .f32) (harg2 : arg2.IsWhole) (arg3 : Memref sig .tc .vmem S1664x2560 .fp8e4m3) (harg3 : arg3.IsWhole) (arg4 : Memref sig .tc .vmem S1x2560 .f32) (harg4 : arg4.IsWhole) (arg5 : Memref sig .tc .vmem S1664x2560 .fp8e4m3) (harg5 : arg5.IsWhole) (arg6 : Memref sig .tc .vmem S1x2560 .f32) (harg6 : arg6.IsWhole) (arg7 : Memref sig .tc .vmem S1024x2560 .fp8e4m3) (harg7 : arg7.IsWhole) (arg8 : Memref sig .tc .vmem S1024x1 .f32) (harg8 : arg8.IsWhole) (arg9 : Memref sig .tc .vmem S1024x2560 .f32) (harg9 : arg9.IsWhole) (arg10 : Memref sig .tc .vmem S1024x128 .f32) (harg10 : arg10.IsWhole) (arg11 : Memref sig .tc .vmem S1024x128 .f32) (harg11 : arg11.IsWhole) (hc1 : k0_cond1 i = 1#1) (hc2 : ¬k0_cond2 i = 1#1)
    (x0 : Vec Ideal S1024x1664 .fp8e4m3) (x1 : Vec Ideal S1024x1 .f32) (x2 : Vec Ideal S1664x2560 .fp8e4m3) (x3 : Vec Ideal S1x2560 .f32) (x4 : Vec Ideal S1664x2560 .fp8e4m3) (x5 : Vec Ideal S1x2560 .f32) (xs0 : Vec Ideal S1024x2560 .f32) (xs1 : Vec Ideal S1024x128 .f32)

/-- The stores of the first tile's lane maxima. -/
theorem hs_2 : (runMid.sl.HS1_2 (F := Ideal) c arg1 harg1 arg2 harg2 arg3 harg3 arg4 harg4 arg5 harg5 arg6 harg6 x0 x1 x2 x3 x4 x5) = [⟨(Rect.unit (s := S1024x128) ![512, 0] ![512, 128] inb_S1024x128_S512x128_512_0), amFirst (hTile arg1 harg1 arg2 harg2 arg3 harg3 arg4 harg4 arg5 harg5 arg6 harg6 x0 x1 x2 x3 x4 x5 512 0 inb_S1024x1664_S512x1664_512_0 inb_S1024x1_S512x1_512_0 inb_S1664x2560_S1664x256_0_0 inb_S1x2560_S1x256_0_0)⟩, ⟨(Rect.unit (s := S1024x128) ![0, 0] ![512, 128] inb_S1024x128_S512x128_0_0), amFirst (hTile arg1 harg1 arg2 harg2 arg3 harg3 arg4 harg4 arg5 harg5 arg6 harg6 x0 x1 x2 x3 x4 x5 0 0 inb_S1024x1664_S512x1664_0_0 inb_S1024x1_S512x1_0_0 inb_S1664x2560_S1664x256_0_0 inb_S1x2560_S1x256_0_0)⟩] := rfl

/-- The stores of a further tile's lane maxima, over those before it. -/
theorem hs_3 : (runMid.sl.HS1_3 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 256 inb_S1024x1664_S512x1664_0_0 inb_S1024x1_S512x1_0_0 inb_S1664x2560_S1664x256_0_256 inb_S1x2560_S1x256_0_256) (arg10.view.readCov (runMid.sl.HS1_2 (F := Ideal) c arg1 harg1 arg2 harg2 arg3 harg3 arg4 harg4 arg5 harg5 arg6 harg6 x0 x1 x2 x3 x4 x5) (Rect.unit (s := S1024x128) ![0, 0] ![512, 128] inb_S1024x128_S512x128_0_0).toLoadRect)⟩ :: (runMid.sl.HS1_2 (F := Ideal) c arg1 harg1 arg2 harg2 arg3 harg3 arg4 harg4 arg5 harg5 arg6 harg6 x0 x1 x2 x3 x4 x5) := rfl

/-- The stores of a further tile's lane maxima, over those before it. -/
theorem hs_4 : (runMid.sl.HS1_4 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 256 inb_S1024x1664_S512x1664_512_0 inb_S1024x1_S512x1_512_0 inb_S1664x2560_S1664x256_0_256 inb_S1x2560_S1x256_0_256) (arg10.view.readCov (runMid.sl.HS1_3 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_3 (F := Ideal) c arg1 harg1 arg2 harg2 arg3 harg3 arg4 harg4 arg5 harg5 arg6 harg6 arg10 x0 x1 x2 x3 x4 x5) := rfl

/-- The stores of a further tile's lane maxima, over those before it. -/
theorem hs_5 : (runMid.sl.HS1_5 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 512 inb_S1024x1664_S512x1664_0_0 inb_S1024x1_S512x1_0_0 inb_S1664x2560_S1664x256_0_512 inb_S1x2560_S1x256_0_512) (arg10.view.readCov (runMid.sl.HS1_4 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_4 (F := Ideal) c arg1 harg1 arg2 harg2 arg3 harg3 arg4 harg4 arg5 harg5 arg6 harg6 arg10 x0 x1 x2 x3 x4 x5) := rfl

/-- The stores of a further tile's lane maxima, over those before it. -/
theorem hs_6 : (runMid.sl.HS1_6 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 512 inb_S1024x1664_S512x1664_512_0 inb_S1024x1_S512x1_512_0 inb_S1664x2560_S1664x256_0_512 inb_S1x2560_S1x256_0_512) (arg10.view.readCov (runMid.sl.HS1_5 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_5 (F := Ideal) c arg1 harg1 arg2 harg2 arg3 harg3 arg4 harg4 arg5 harg5 arg6 harg6 arg10 x0 x1 x2 x3 x4 x5) := rfl

/-- The stores of a further tile's lane maxima, over those before it. -/
theorem hs_7 : (runMid.sl.HS1_7 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 768 inb_S1024x1664_S512x1664_0_0 inb_S1024x1_S512x1_0_0 inb_S1664x2560_S1664x256_0_768 inb_S1x2560_S1x256_0_768) (arg10.view.readCov (runMid.sl.HS1_6 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_6 (F := Ideal) c arg1 harg1 arg2 harg2 arg3 harg3 arg4 harg4 arg5 harg5 arg6 harg6 arg10 x0 x1 x2 x3 x4 x5) := rfl

/-- The stores of a further tile's lane maxima, over those before it. -/
theorem hs_8 : (runMid.sl.HS1_8 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 768 inb_S1024x1664_S512x1664_512_0 inb_S1024x1_S512x1_512_0 inb_S1664x2560_S1664x256_0_768 inb_S1x2560_S1x256_0_768) (arg10.view.readCov (runMid.sl.HS1_7 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_7 (F := Ideal) c arg1 harg1 arg2 harg2 arg3 harg3 arg4 harg4 arg5 harg5 arg6 harg6 arg10 x0 x1 x2 x3 x4 x5) := rfl

/-- The stores of a further tile's lane maxima, over those before it. -/
theorem hs_9 : (runMid.sl.HS1_9 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 1024 inb_S1024x1664_S512x1664_0_0 inb_S1024x1_S512x1_0_0 inb_S1664x2560_S1664x256_0_1024 inb_S1x2560_S1x256_0_1024) (arg10.view.readCov (runMid.sl.HS1_8 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_8 (F := Ideal) c arg1 harg1 arg2 harg2 arg3 harg3 arg4 harg4 arg5 harg5 arg6 harg6 arg10 x0 x1 x2 x3 x4 x5) := rfl

/-- The stores of a further tile's lane maxima, over those before it. -/
theorem hs_10 : (runMid.sl.HS1_10 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 1024 inb_S1024x1664_S512x1664_512_0 inb_S1024x1_S512x1_512_0 inb_S1664x2560_S1664x256_0_1024 inb_S1x2560_S1x256_0_1024) (arg10.view.readCov (runMid.sl.HS1_9 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_9 (F := Ideal) c arg1 harg1 arg2 harg2 arg3 harg3 arg4 harg4 arg5 harg5 arg6 harg6 arg10 x0 x1 x2 x3 x4 x5) := rfl

/-- The stores of a further tile's lane maxima, over those before it. -/
theorem hs_11 : (runMid.sl.HS1_11 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 1280 inb_S1024x1664_S512x1664_0_0 inb_S1024x1_S512x1_0_0 inb_S1664x2560_S1664x256_0_1280 inb_S1x2560_S1x256_0_1280) (arg10.view.readCov (runMid.sl.HS1_10 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_10 (F := Ideal) c arg1 harg1 arg2 harg2 arg3 harg3 arg4 harg4 arg5 harg5 arg6 harg6 arg10 x0 x1 x2 x3 x4 x5) := rfl

/-- The stores of a further tile's lane maxima, over those before it. -/
theorem hs_12 : (runMid.sl.HS1_12 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 1280 inb_S1024x1664_S512x1664_512_0 inb_S1024x1_S512x1_512_0 inb_S1664x2560_S1664x256_0_1280 inb_S1x2560_S1x256_0_1280) (arg10.view.readCov (runMid.sl.HS1_11 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_11 (F := Ideal) c arg1 harg1 arg2 harg2 arg3 harg3 arg4 harg4 arg5 harg5 arg6 harg6 arg10 x0 x1 x2 x3 x4 x5) := rfl

/-- The stores of a further tile's lane maxima, over those before it. -/
theorem hs_13 : (runMid.sl.HS1_13 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 1536 inb_S1024x1664_S512x1664_0_0 inb_S1024x1_S512x1_0_0 inb_S1664x2560_S1664x256_0_1536 inb_S1x2560_S1x256_0_1536) (arg10.view.readCov (runMid.sl.HS1_12 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_12 (F := Ideal) c arg1 harg1 arg2 harg2 arg3 harg3 arg4 harg4 arg5 harg5 arg6 harg6 arg10 x0 x1 x2 x3 x4 x5) := rfl

/-- The stores of a further tile's lane maxima, over those before it. -/
theorem hs_14 : (runMid.sl.HS1_14 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 1536 inb_S1024x1664_S512x1664_512_0 inb_S1024x1_S512x1_512_0 inb_S1664x2560_S1664x256_0_1536 inb_S1x2560_S1x256_0_1536) (arg10.view.readCov (runMid.sl.HS1_13 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_13 (F := Ideal) c arg1 harg1 arg2 harg2 arg3 harg3 arg4 harg4 arg5 harg5 arg6 harg6 arg10 x0 x1 x2 x3 x4 x5) := rfl

/-- The stores of a further tile's lane maxima, over those before it. -/
theorem hs_15 : (runMid.sl.HS1_15 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 1792 inb_S1024x1664_S512x1664_0_0 inb_S1024x1_S512x1_0_0 inb_S1664x2560_S1664x256_0_1792 inb_S1x2560_S1x256_0_1792) (arg10.view.readCov (runMid.sl.HS1_14 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_14 (F := Ideal) c arg1 harg1 arg2 harg2 arg3 harg3 arg4 harg4 arg5 harg5 arg6 harg6 arg10 x0 x1 x2 x3 x4 x5) := rfl

/-- The stores of a further tile's lane maxima, over those before it. -/
theorem hs_16 : (runMid.sl.HS1_16 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 1792 inb_S1024x1664_S512x1664_512_0 inb_S1024x1_S512x1_512_0 inb_S1664x2560_S1664x256_0_1792 inb_S1x2560_S1x256_0_1792) (arg10.view.readCov (runMid.sl.HS1_15 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_15 (F := Ideal) c arg1 harg1 arg2 harg2 arg3 harg3 arg4 harg4 arg5 harg5 arg6 harg6 arg10 x0 x1 x2 x3 x4 x5) := rfl

/-- The stores of a further tile's lane maxima, over those before it. -/
theorem hs_17 : (runMid.sl.HS1_17 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 2048 inb_S1024x1664_S512x1664_0_0 inb_S1024x1_S512x1_0_0 inb_S1664x2560_S1664x256_0_2048 inb_S1x2560_S1x256_0_2048) (arg10.view.readCov (runMid.sl.HS1_16 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_16 (F := Ideal) c arg1 harg1 arg2 harg2 arg3 harg3 arg4 harg4 arg5 harg5 arg6 harg6 arg10 x0 x1 x2 x3 x4 x5) := rfl

/-- The stores of a further tile's lane maxima, over those before it. -/
theorem hs_18 : (runMid.sl.HS1_18 (F := Ideal) c arg1 harg1 arg2 harg2 arg3 harg3 arg4 harg4 arg5 harg5 arg6 harg6 arg10 x0 x1 x2 x3 x4 x5) = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 2048 inb_S1024x1664_S512x1664_512_0 inb_S1024x1_S512x1_512_0 inb_S1664x2560_S1664x256_0_2048 inb_S1x2560_S1x256_0_2048) (arg10.view.readCov (runMid.sl.HS1_17 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_17 (F := Ideal) c arg1 harg1 arg2 harg2 arg3 harg3 arg4 harg4 arg5 harg5 arg6 harg6 arg10 x0 x1 x2 x3 x4 x5) := rfl

/-- The stores of a further tile's lane maxima, over those before it. -/
theorem hs_19 : (runMid.sl.HS1_19 (F := Ideal) c arg1 harg1 arg2 harg2 arg3 harg3 arg4 harg4 arg5 harg5 arg6 harg6 arg10 x0 x1 x2 x3 x4 x5) = ⟨(Rect.unit (s := S1024x128) ![0, 0] ![512, 128] inb_S1024x128_S512x128_0_0), k0_pay2 (hTile arg1 harg1 arg2 harg2 arg3 harg3 arg4 harg4 arg5 harg5 arg6 harg6 x0 x1 x2 x3 x4 x5 0 2304 inb_S1024x1664_S512x1664_0_0 inb_S1024x1_S512x1_0_0 inb_S1664x2560_S1664x256_0_2304 inb_S1x2560_S1x256_0_2304) (arg10.view.readCov (runMid.sl.HS1_18 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect)⟩ :: (runMid.sl.HS1_18 (F := Ideal) c arg1 harg1 arg2 harg2 arg3 harg3 arg4 harg4 arg5 harg5 arg6 harg6 arg10 x0 x1 x2 x3 x4 x5) := rfl

/-- The stores of a further tile's lane maxima, over those before it. -/
theorem hs_20 : (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.2.2.1 = ⟨(Rect.unit (s := S1024x128) ![512, 0] ![512, 128] inb_S1024x128_S512x128_512_0), k0_pay2 (hTile arg1 harg1 arg2 harg2 arg3 harg3 arg4 harg4 arg5 harg5 arg6 harg6 x0 x1 x2 x3 x4 x5 512 2304 inb_S1024x1664_S512x1664_512_0 inb_S1024x1_S512x1_512_0 inb_S1664x2560_S1664x256_0_2304 inb_S1x2560_S1x256_0_2304) (arg10.view.readCov (runMid.sl.HS1_19 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect)⟩ :: (runMid.sl.HS1_19 (F := Ideal) c arg1 harg1 arg2 harg2 arg3 harg3 arg4 harg4 arg5 harg5 arg6 harg6 arg10 x0 x1 x2 x3 x4 x5) := by unfold runMid; rfl

variable (i' : Fin 512) (l : Fin 128)

/-- What is read back of them: the lane maxima so far. -/
theorem rd_2_512 : arg10.view.readCov (runMid.sl.HS1_2 (F := Ideal) c arg1 harg1 arg2 harg2 arg3 harg3 arg4 harg4 arg5 harg5 arg6 harg6 x0 x1 x2 x3 x4 x5) (Rect.unit (s := S1024x128) ![512, 0] ![512, 128] inb_S1024x128_S512x128_512_0).toLoadRect (ix2 i' l) = amN (rowN (HB x0 x1 x2 x3 x4 x5) (512 + i'.val)) l.val 0 := by
  rw [hs_2, View.readCov_cons_toLoadRect]
  exact amFirst_apply arg1 harg1 arg2 harg2 arg3 harg3 arg4 harg4 arg5 harg5 arg6 harg6 x0 x1 x2 x3 x4 x5 512 inb_S1024x1664_S512x1664_512_0 inb_S1024x1_S512x1_512_0 (le_refl _) inb_S1664x2560_S1664x256_0_0 inb_S1x2560_S1x256_0_0 i' l
theorem rd_2_0 : arg10.view.readCov (runMid.sl.HS1_2 (F := Ideal) c arg1 harg1 arg2 harg2 arg3 harg3 arg4 harg4 arg5 harg5 arg6 harg6 x0 x1 x2 x3 x4 x5) (Rect.unit (s := S1024x128) ![0, 0] ![512, 128] inb_S1024x128_S512x128_0_0).toLoadRect (ix2 i' l) = amN (rowN (HB x0 x1 x2 x3 x4 x5) (0 + i'.val)) l.val 0 := by
  rw [hs_2, View.readCov_skip _ _ _ _ _ (by decide +kernel), View.readCov_cons_toLoadRect]
  exact amFirst_apply arg1 harg1 arg2 harg2 arg3 harg3 arg4 harg4 arg5 harg5 arg6 harg6 x0 x1 x2 x3 x4 x5 0 inb_S1024x1664_S512x1664_0_0 inb_S1024x1_S512x1_0_0 (Nat.zero_le _) inb_S1664x2560_S1664x256_0_0 inb_S1x2560_S1x256_0_0 i' l
theorem rd_3_0 : arg10.view.readCov (runMid.sl.HS1_3 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 1 := by
  rw [hs_3, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 0 256 rfl (by decide) inb_S1664x2560_S1664x256_0_256 inb_S1x2560_S1x256_0_256 _ i' l (rd_2_0 ..)
theorem rd_3_512 : arg10.view.readCov (runMid.sl.HS1_3 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 0 := by
  rw [hs_3, View.readCov_skip _ _ _ _ _ (by decide +kernel)]; exact rd_2_512 ..
theorem rd_4_512 : arg10.view.readCov (runMid.sl.HS1_4 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 1 := by
  rw [hs_4, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 0 256 rfl (by decide) inb_S1664x2560_S1664x256_0_256 inb_S1x2560_S1x256_0_256 _ i' l (rd_3_512 ..)
theorem rd_4_0 : arg10.view.readCov (runMid.sl.HS1_4 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 1 := by
  rw [hs_4, View.readCov_skip _ _ _ _ _ (by decide +kernel)]; exact rd_3_0 ..
theorem rd_5_0 : arg10.view.readCov (runMid.sl.HS1_5 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 2 := by
  rw [hs_5, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 1 512 rfl (by decide) inb_S1664x2560_S1664x256_0_512 inb_S1x2560_S1x256_0_512 _ i' l (rd_4_0 ..)
theorem rd_5_512 : arg10.view.readCov (runMid.sl.HS1_5 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 1 := by
  rw [hs_5, View.readCov_skip _ _ _ _ _ (by decide +kernel)]; exact rd_4_512 ..
theorem rd_6_512 : arg10.view.readCov (runMid.sl.HS1_6 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 2 := by
  rw [hs_6, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 1 512 rfl (by decide) inb_S1664x2560_S1664x256_0_512 inb_S1x2560_S1x256_0_512 _ i' l (rd_5_512 ..)
theorem rd_6_0 : arg10.view.readCov (runMid.sl.HS1_6 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 2 := by
  rw [hs_6, View.readCov_skip _ _ _ _ _ (by decide +kernel)]; exact rd_5_0 ..
theorem rd_7_0 : arg10.view.readCov (runMid.sl.HS1_7 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 3 := by
  rw [hs_7, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 2 768 rfl (by decide) inb_S1664x2560_S1664x256_0_768 inb_S1x2560_S1x256_0_768 _ i' l (rd_6_0 ..)
theorem rd_7_512 : arg10.view.readCov (runMid.sl.HS1_7 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 2 := by
  rw [hs_7, View.readCov_skip _ _ _ _ _ (by decide +kernel)]; exact rd_6_512 ..
theorem rd_8_512 : arg10.view.readCov (runMid.sl.HS1_8 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 3 := by
  rw [hs_8, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 2 768 rfl (by decide) inb_S1664x2560_S1664x256_0_768 inb_S1x2560_S1x256_0_768 _ i' l (rd_7_512 ..)
theorem rd_8_0 : arg10.view.readCov (runMid.sl.HS1_8 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 3 := by
  rw [hs_8, View.readCov_skip _ _ _ _ _ (by decide +kernel)]; exact rd_7_0 ..
theorem rd_9_0 : arg10.view.readCov (runMid.sl.HS1_9 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 4 := by
  rw [hs_9, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 3 1024 rfl (by decide) inb_S1664x2560_S1664x256_0_1024 inb_S1x2560_S1x256_0_1024 _ i' l (rd_8_0 ..)
theorem rd_9_512 : arg10.view.readCov (runMid.sl.HS1_9 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 3 := by
  rw [hs_9, View.readCov_skip _ _ _ _ _ (by decide +kernel)]; exact rd_8_512 ..
theorem rd_10_512 : arg10.view.readCov (runMid.sl.HS1_10 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 4 := by
  rw [hs_10, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 3 1024 rfl (by decide) inb_S1664x2560_S1664x256_0_1024 inb_S1x2560_S1x256_0_1024 _ i' l (rd_9_512 ..)
theorem rd_10_0 : arg10.view.readCov (runMid.sl.HS1_10 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 4 := by
  rw [hs_10, View.readCov_skip _ _ _ _ _ (by decide +kernel)]; exact rd_9_0 ..
theorem rd_11_0 : arg10.view.readCov (runMid.sl.HS1_11 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 5 := by
  rw [hs_11, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 4 1280 rfl (by decide) inb_S1664x2560_S1664x256_0_1280 inb_S1x2560_S1x256_0_1280 _ i' l (rd_10_0 ..)
theorem rd_11_512 : arg10.view.readCov (runMid.sl.HS1_11 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 4 := by
  rw [hs_11, View.readCov_skip _ _ _ _ _ (by decide +kernel)]; exact rd_10_512 ..
theorem rd_12_512 : arg10.view.readCov (runMid.sl.HS1_12 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 5 := by
  rw [hs_12, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 4 1280 rfl (by decide) inb_S1664x2560_S1664x256_0_1280 inb_S1x2560_S1x256_0_1280 _ i' l (rd_11_512 ..)
theorem rd_12_0 : arg10.view.readCov (runMid.sl.HS1_12 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 5 := by
  rw [hs_12, View.readCov_skip _ _ _ _ _ (by decide +kernel)]; exact rd_11_0 ..
theorem rd_13_0 : arg10.view.readCov (runMid.sl.HS1_13 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 6 := by
  rw [hs_13, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 5 1536 rfl (by decide) inb_S1664x2560_S1664x256_0_1536 inb_S1x2560_S1x256_0_1536 _ i' l (rd_12_0 ..)
theorem rd_13_512 : arg10.view.readCov (runMid.sl.HS1_13 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 5 := by
  rw [hs_13, View.readCov_skip _ _ _ _ _ (by decide +kernel)]; exact rd_12_512 ..
theorem rd_14_512 : arg10.view.readCov (runMid.sl.HS1_14 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 6 := by
  rw [hs_14, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 5 1536 rfl (by decide) inb_S1664x2560_S1664x256_0_1536 inb_S1x2560_S1x256_0_1536 _ i' l (rd_13_512 ..)
theorem rd_14_0 : arg10.view.readCov (runMid.sl.HS1_14 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 6 := by
  rw [hs_14, View.readCov_skip _ _ _ _ _ (by decide +kernel)]; exact rd_13_0 ..
theorem rd_15_0 : arg10.view.readCov (runMid.sl.HS1_15 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 7 := by
  rw [hs_15, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 6 1792 rfl (by decide) inb_S1664x2560_S1664x256_0_1792 inb_S1x2560_S1x256_0_1792 _ i' l (rd_14_0 ..)
theorem rd_15_512 : arg10.view.readCov (runMid.sl.HS1_15 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 6 := by
  rw [hs_15, View.readCov_skip _ _ _ _ _ (by decide +kernel)]; exact rd_14_512 ..
theorem rd_16_512 : arg10.view.readCov (runMid.sl.HS1_16 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 7 := by
  rw [hs_16, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 6 1792 rfl (by decide) inb_S1664x2560_S1664x256_0_1792 inb_S1x2560_S1x256_0_1792 _ i' l (rd_15_512 ..)
theorem rd_16_0 : arg10.view.readCov (runMid.sl.HS1_16 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 7 := by
  rw [hs_16, View.readCov_skip _ _ _ _ _ (by decide +kernel)]; exact rd_15_0 ..
theorem rd_17_0 : arg10.view.readCov (runMid.sl.HS1_17 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 8 := by
  rw [hs_17, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 7 2048 rfl (by decide) inb_S1664x2560_S1664x256_0_2048 inb_S1x2560_S1x256_0_2048 _ i' l (rd_16_0 ..)
theorem rd_17_512 : arg10.view.readCov (runMid.sl.HS1_17 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 7 := by
  rw [hs_17, View.readCov_skip _ _ _ _ _ (by decide +kernel)]; exact rd_16_512 ..
theorem rd_18_512 : arg10.view.readCov (runMid.sl.HS1_18 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 8 := by
  rw [hs_18, View.readCov_cons_toLoadRect]
  exact amNext_apply arg1 harg1 arg2 harg2 arg3 harg3 arg4 harg4 arg5 harg5 arg6 harg6 x0 x1 x2 x3 x4 x5 512 inb_S1024x1664_S512x1664_512_0 inb_S1024x1_S512x1_512_0 (le_refl _) 7 2048 rfl (by decide) inb_S1664x2560_S1664x256_0_2048 inb_S1x2560_S1x256_0_2048 _ i' l (rd_17_512 ..)
theorem rd_18_0 : arg10.view.readCov (runMid.sl.HS1_18 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 8 := by
  rw [hs_18, View.readCov_skip _ _ _ _ _ (by decide +kernel)]; exact rd_17_0 ..
theorem rd_19_0 : arg10.view.readCov (runMid.sl.HS1_19 (F := Ideal) c arg1 harg1 arg2 harg2 arg3 harg3 arg4 harg4 arg5 harg5 arg6 harg6 arg10 x0 x1 x2 x3 x4 x5) (Rect.unit (s := S1024x128) ![0, 0] ![512, 128] inb_S1024x128_S512x128_0_0).toLoadRect (ix2 i' l) = amN (rowN (HB x0 x1 x2 x3 x4 x5) (0 + i'.val)) l.val 9 := by
  rw [hs_19, View.readCov_cons_toLoadRect]
  exact amNext_apply arg1 harg1 arg2 harg2 arg3 harg3 arg4 harg4 arg5 harg5 arg6 harg6 x0 x1 x2 x3 x4 x5 0 inb_S1024x1664_S512x1664_0_0 inb_S1024x1_S512x1_0_0 (Nat.zero_le _) 8 2304 rfl (by decide) inb_S1664x2560_S1664x256_0_2304 inb_S1x2560_S1x256_0_2304 _ i' l (rd_18_0 ..)
theorem rd_19_512 : arg10.view.readCov (runMid.sl.HS1_19 (F := Ideal) c arg1 harg1 arg2 harg2 arg3 harg3 arg4 harg4 arg5 harg5 arg6 harg6 arg10 x0 x1 x2 x3 x4 x5) (Rect.unit (s := S1024x128) ![512, 0] ![512, 128] inb_S1024x128_S512x128_512_0).toLoadRect (ix2 i' l) = amN (rowN (HB x0 x1 x2 x3 x4 x5) (512 + i'.val)) l.val 8 := by
  rw [hs_19, View.readCov_skip _ _ _ _ _ (by decide +kernel)]; exact rd_18_512 ..

/-- The lane maxima the body leaves at a point before the last. -/
theorem mid_am {κ : Kind} {sp : Space} (v : View sig κ sp S1024x128 .f32) (f : v.ty.Contents (Elt Ideal)) : v.read (Elt Ideal) (v.writes (Elt Ideal) f (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.2.2.1) = AMB (HB x0 x1 x2 x3 x4 x5) := by
  rw [hs_20, hs_19]
  refine read_writes_of_pieces_append v f [_, _] _ _ ⟨?_, ?_, trivial⟩ ?_
  · exact am_piece _ 512 inb_S1024x128_S512x128_512_0 _ (fun i l => amNext_apply arg1 harg1 arg2 harg2 arg3 harg3 arg4 harg4 arg5 harg5 arg6 harg6 x0 x1 x2 x3 x4 x5 512 inb_S1024x1664_S512x1664_512_0 inb_S1024x1_S512x1_512_0 (le_refl _) 8 2304 rfl (by decide) inb_S1664x2560_S1664x256_0_2304 inb_S1x2560_S1x256_0_2304 _ i l (by rw [← hs_19]; exact rd_19_512 ..))
  · exact am_piece _ 0 inb_S1024x128_S512x128_0_0 _ (fun i l => amNext_apply arg1 harg1 arg2 harg2 arg3 harg3 arg4 harg4 arg5 harg5 arg6 harg6 x0 x1 x2 x3 x4 x5 0 inb_S1024x1664_S512x1664_0_0 inb_S1024x1_S512x1_0_0 (Nat.zero_le _) 8 2304 rfl (by decide) inb_S1664x2560_S1664x256_0_2304 inb_S1x2560_S1x256_0_2304 _ i l (rd_18_0 ..))
  · exact fun y => View.cover_of_tiledL _ ![512, 128] (by sl_kernel_rfl) y

/-- The products the body leaves at a point before the last. -/
theorem mid_h_pieces : View.PiecesOf (HB x0 x1 x2 x3 x4 x5) (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.2.1 := by
  unfold runMid; dsimp only
  exact ⟨(fun y => hTile_piece arg1 harg1 arg2 harg2 arg3 harg3 arg4 harg4 arg5 harg5 arg6 harg6 x0 x1 x2 x3 x4 x5 512 2304 inb_S1024x1664_S512x1664_512_0 inb_S1024x1_S512x1_512_0 inb_S1664x2560_S1664x256_0_2304 inb_S1x2560_S1x256_0_2304 inb_S1024x2560_S512x256_512_2304 y), (fun y => hTile_piece arg1 harg1 arg2 harg2 arg3 harg3 arg4 harg4 arg5 harg5 arg6 harg6 x0 x1 x2 x3 x4 x5 0 2304 inb_S1024x1664_S512x1664_0_0 inb_S1024x1_S512x1_0_0 inb_S1664x2560_S1664x256_0_2304 inb_S1x2560_S1x256_0_2304 inb_S1024x2560_S512x256_0_2304 y), (fun y => hTile_piece arg1 harg1 arg2 harg2 arg3 harg3 arg4 harg4 arg5 harg5 arg6 harg6 x0 x1 x2 x3 x4 x5 512 2048 inb_S1024x1664_S512x1664_512_0 inb_S1024x1_S512x1_512_0 inb_S1664x2560_S1664x256_0_2048 inb_S1x2560_S1x256_0_2048 inb_S1024x2560_S512x256_512_2048 y), (fun y => hTile_piece arg1 harg1 arg2 harg2 arg3 harg3 arg4 harg4 arg5 harg5 arg6 harg6 x0 x1 x2 x3 x4 x5 0 2048 inb_S1024x1664_S512x1664_0_0 inb_S1024x1_S512x1_0_0 inb_S1664x2560_S1664x256_0_2048 inb_S1x2560_S1x256_0_2048 inb_S1024x2560_S512x256_0_2048 y), (fun y => hTile_piece arg1 harg1 arg2 harg2 arg3 harg3 arg4 harg4 arg5 harg5 arg6 harg6 x0 x1 x2 x3 x4 x5 512 1792 inb_S1024x1664_S512x1664_512_0 inb_S1024x1_S512x1_512_0 inb_S1664x2560_S1664x256_0_1792 inb_S1x2560_S1x256_0_1792 inb_S1024x2560_S512x256_512_1792 y), (fun y => hTile_piece arg1 harg1 arg2 harg2 arg3 harg3 arg4 harg4 arg5 harg5 arg6 harg6 x0 x1 x2 x3 x4 x5 0 1792 inb_S1024x1664_S512x1664_0_0 inb_S1024x1_S512x1_0_0 inb_S1664x2560_S1664x256_0_1792 inb_S1x2560_S1x256_0_1792 inb_S1024x2560_S512x256_0_1792 y), (fun y => hTile_piece arg1 harg1 arg2 harg2 arg3 harg3 arg4 harg4 arg5 harg5 arg6 harg6 x0 x1 x2 x3 x4 x5 512 1536 inb_S1024x1664_S512x1664_512_0 inb_S1024x1_S512x1_512_0 inb_S1664x2560_S1664x256_0_1536 inb_S1x2560_S1x256_0_1536 inb_S1024x2560_S512x256_512_1536 y), (fun y => hTile_piece arg1 harg1 arg2 harg2 arg3 harg3 arg4 harg4 arg5 harg5 arg6 harg6 x0 x1 x2 x3 x4 x5 0 1536 inb_S1024x1664_S512x1664_0_0 inb_S1024x1_S512x1_0_0 inb_S1664x2560_S1664x256_0_1536 inb_S1x2560_S1x256_0_1536 inb_S1024x2560_S512x256_0_1536 y), (fun y => hTile_piece arg1 harg1 arg2 harg2 arg3 harg3 arg4 harg4 arg5 harg5 arg6 harg6 x0 x1 x2 x3 x4 x5 512 1280 inb_S1024x1664_S512x1664_512_0 inb_S1024x1_S512x1_512_0 inb_S1664x2560_S1664x256_0_1280 inb_S1x2560_S1x256_0_1280 inb_S1024x2560_S512x256_512_1280 y), (fun y => hTile_piece arg1 harg1 arg2 harg2 arg3 harg3 arg4 harg4 arg5 harg5 arg6 harg6 x0 x1 x2 x3 x4 x5 0 1280 inb_S1024x1664_S512x1664_0_0 inb_S1024x1_S512x1_0_0 inb_S1664x2560_S1664x256_0_1280 inb_S1x2560_S1x256_0_1280 inb_S1024x2560_S512x256_0_1280 y), (fun y => hTile_piece arg1 harg1 arg2 harg2 arg3 harg3 arg4 harg4 arg5 harg5 arg6 harg6 x0 x1 x2 x3 x4 x5 512 1024 inb_S1024x1664_S512x1664_512_0 inb_S1024x1_S512x1_512_0 inb_S1664x2560_S1664x256_0_1024 inb_S1x2560_S1x256_0_1024 inb_S1024x2560_S512x256_512_1024 y), (fun y => hTile_piece arg1 harg1 arg2 harg2 arg3 harg3 arg4 harg4 arg5 harg5 arg6 harg6 x0 x1 x2 x3 x4 x5 0 1024 inb_S1024x1664_S512x1664_0_0 inb_S1024x1_S512x1_0_0 inb_S1664x2560_S1664x256_0_1024 inb_S1x2560_S1x256_0_1024 inb_S1024x2560_S512x256_0_1024 y), (fun y => hTile_piece arg1 harg1 arg2 harg2 arg3 harg3 arg4 harg4 arg5 harg5 arg6 harg6 x0 x1 x2 x3 x4 x5 512 768 inb_S1024x1664_S512x1664_512_0 inb_S1024x1_S512x1_512_0 inb_S1664x2560_S1664x256_0_768 inb_S1x2560_S1x256_0_768 inb_S1024x2560_S512x256_512_768 y), (fun y => hTile_piece arg1 harg1 arg2 harg2 arg3 harg3 arg4 harg4 arg5 harg5 arg6 harg6 x0 x1 x2 x3 x4 x5 0 768 inb_S1024x1664_S512x1664_0_0 inb_S1024x1_S512x1_0_0 inb_S1664x2560_S1664x256_0_768 inb_S1x2560_S1x256_0_768 inb_S1024x2560_S512x256_0_768 y), (fun y => hTile_piece arg1 harg1 arg2 harg2 arg3 harg3 arg4 harg4 arg5 harg5 arg6 harg6 x0 x1 x2 x3 x4 x5 512 512 inb_S1024x1664_S512x1664_512_0 inb_S1024x1_S512x1_512_0 inb_S1664x2560_S1664x256_0_512 inb_S1x2560_S1x256_0_512 inb_S1024x2560_S512x256_512_512 y), (fun y => hTile_piece arg1 harg1 arg2 harg2 arg3 harg3 arg4 harg4 arg5 harg5 arg6 harg6 x0 x1 x2 x3 x4 x5 0 512 inb_S1024x1664_S512x1664_0_0 inb_S1024x1_S512x1_0_0 inb_S1664x2560_S1664x256_0_512 inb_S1x2560_S1x256_0_512 inb_S1024x2560_S512x256_0_512 y), (fun y => hTile_piece arg1 harg1 arg2 harg2 arg3 harg3 arg4 harg4 arg5 harg5 arg6 harg6 x0 x1 x2 x3 x4 x5 512 256 inb_S1024x1664_S512x1664_512_0 inb_S1024x1_S512x1_512_0 inb_S1664x2560_S1664x256_0_256 inb_S1x2560_S1x256_0_256 inb_S1024x2560_S512x256_512_256 y), (fun y => hTile_piece arg1 harg1 arg2 harg2 arg3 harg3 arg4 harg4 arg5 harg5 arg6 harg6 x0 x1 x2 x3 x4 x5 0 256 inb_S1024x1664_S512x1664_0_0 inb_S1024x1_S512x1_0_0 inb_S1664x2560_S1664x256_0_256 inb_S1x2560_S1x256_0_256 inb_S1024x2560_S512x256_0_256 y), (fun y => hTile_piece arg1 harg1 arg2 harg2 arg3 harg3 arg4 harg4 arg5 harg5 arg6 harg6 x0 x1 x2 x3 x4 x5 512 0 inb_S1024x1664_S512x1664_512_0 inb_S1024x1_S512x1_512_0 inb_S1664x2560_S1664x256_0_0 inb_S1x2560_S1x256_0_0 inb_S1024x2560_S512x256_512_0 y), (fun y => hTile_piece arg1 harg1 arg2 harg2 arg3 harg3 arg4 harg4 arg5 harg5 arg6 harg6 x0 x1 x2 x3 x4 x5 0 0 inb_S1024x1664_S512x1664_0_0 inb_S1024x1_S512x1_0_0 inb_S1664x2560_S1664x256_0_0 inb_S1x2560_S1x256_0_0 inb_S1024x2560_S512x256_0_0 y), trivial⟩

theorem mid_h_cover : ∀ y, ∃ p ∈ (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.2.1, y ∈ p.1.set := fun y => by
  unfold runMid; dsimp only
  exact View.cover_of_tiledL _ ![512, 256] (by sl_kernel_rfl) y

/-- The stores of the inverse scales, -/
theorem mid_inv : runMid.sl.HS2_2 (F := Ideal) c arg10 harg10 xs1 = [⟨(Rect.unit (s := S1024x128) ![512, 0] ![512, 128] inb_S1024x128_S512x128_512_0), invT arg10 harg10 xs1 512 inb_S1024x128_S512x128_512_0⟩, ⟨(Rect.unit (s := S1024x128) ![0, 0] ![512, 128] inb_S1024x128_S512x128_0_0), invT arg10 harg10 xs1 0 inb_S1024x128_S512x128_0_0⟩] := rfl
/-- and what is read back of them. -/
theorem mid_inv_0 : runMid.sl.v188 (F := Ideal) c arg10 harg10 arg11 xs1 = invT arg10 harg10 xs1 0 inb_S1024x128_S512x128_0_0 := by
  show arg11.view.readCov (runMid.sl.HS2_2 (F := Ideal) c arg10 harg10 xs1) (Rect.unit (s := S1024x128) ![0, 0] ![512, 128] inb_S1024x128_S512x128_0_0).toLoadRect = _
  rw [mid_inv, View.readCov_skip _ _ _ _ _ (by decide +kernel), View.readCov_cons_toLoadRect]
theorem mid_inv_512 : runMid.sl.v238 (F := Ideal) c arg10 harg10 arg11 xs1 = invT arg10 harg10 xs1 512 inb_S1024x128_S512x128_512_0 := by
  show arg11.view.readCov (runMid.sl.HS2_2 (F := Ideal) c arg10 harg10 xs1) (Rect.unit (s := S1024x128) ![512, 0] ![512, 128] inb_S1024x128_S512x128_512_0).toLoadRect = _
  rw [mid_inv, View.readCov_cons_toLoadRect]

/-- The codes the body leaves. -/
theorem mid_codes_pieces : View.PiecesOf (QB xs0 xs1) (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).1 := by
  unfold runMid; dsimp only
  exact ⟨(fun y => codes_piece_of arg10 harg10 xs1 512 inb_S1024x128_S512x128_512_0 arg9 harg9 xs0 2304 inb_S1024x2560_S512x256_512_2304 (runMid.sl.v238 (F := Ideal) c arg10 harg10 arg11 xs1) (mid_inv_512 ..) y), (fun y => codes_piece_of arg10 harg10 xs1 0 inb_S1024x128_S512x128_0_0 arg9 harg9 xs0 2304 inb_S1024x2560_S512x256_0_2304 (runMid.sl.v188 (F := Ideal) c arg10 harg10 arg11 xs1) (mid_inv_0 ..) y), (fun y => codes_piece_of arg10 harg10 xs1 512 inb_S1024x128_S512x128_512_0 arg9 harg9 xs0 2048 inb_S1024x2560_S512x256_512_2048 (runMid.sl.v238 (F := Ideal) c arg10 harg10 arg11 xs1) (mid_inv_512 ..) y), (fun y => codes_piece_of arg10 harg10 xs1 0 inb_S1024x128_S512x128_0_0 arg9 harg9 xs0 2048 inb_S1024x2560_S512x256_0_2048 (runMid.sl.v188 (F := Ideal) c arg10 harg10 arg11 xs1) (mid_inv_0 ..) y), (fun y => codes_piece_of arg10 harg10 xs1 512 inb_S1024x128_S512x128_512_0 arg9 harg9 xs0 1792 inb_S1024x2560_S512x256_512_1792 (runMid.sl.v238 (F := Ideal) c arg10 harg10 arg11 xs1) (mid_inv_512 ..) y), (fun y => codes_piece_of arg10 harg10 xs1 0 inb_S1024x128_S512x128_0_0 arg9 harg9 xs0 1792 inb_S1024x2560_S512x256_0_1792 (runMid.sl.v188 (F := Ideal) c arg10 harg10 arg11 xs1) (mid_inv_0 ..) y), (fun y => codes_piece_of arg10 harg10 xs1 512 inb_S1024x128_S512x128_512_0 arg9 harg9 xs0 1536 inb_S1024x2560_S512x256_512_1536 (runMid.sl.v238 (F := Ideal) c arg10 harg10 arg11 xs1) (mid_inv_512 ..) y), (fun y => codes_piece_of arg10 harg10 xs1 0 inb_S1024x128_S512x128_0_0 arg9 harg9 xs0 1536 inb_S1024x2560_S512x256_0_1536 (runMid.sl.v188 (F := Ideal) c arg10 harg10 arg11 xs1) (mid_inv_0 ..) y), (fun y => codes_piece_of arg10 harg10 xs1 512 inb_S1024x128_S512x128_512_0 arg9 harg9 xs0 1280 inb_S1024x2560_S512x256_512_1280 (runMid.sl.v238 (F := Ideal) c arg10 harg10 arg11 xs1) (mid_inv_512 ..) y), (fun y => codes_piece_of arg10 harg10 xs1 0 inb_S1024x128_S512x128_0_0 arg9 harg9 xs0 1280 inb_S1024x2560_S512x256_0_1280 (runMid.sl.v188 (F := Ideal) c arg10 harg10 arg11 xs1) (mid_inv_0 ..) y), (fun y => codes_piece_of arg10 harg10 xs1 512 inb_S1024x128_S512x128_512_0 arg9 harg9 xs0 1024 inb_S1024x2560_S512x256_512_1024 (runMid.sl.v238 (F := Ideal) c arg10 harg10 arg11 xs1) (mid_inv_512 ..) y), (fun y => codes_piece_of arg10 harg10 xs1 0 inb_S1024x128_S512x128_0_0 arg9 harg9 xs0 1024 inb_S1024x2560_S512x256_0_1024 (runMid.sl.v188 (F := Ideal) c arg10 harg10 arg11 xs1) (mid_inv_0 ..) y), (fun y => codes_piece_of arg10 harg10 xs1 512 inb_S1024x128_S512x128_512_0 arg9 harg9 xs0 768 inb_S1024x2560_S512x256_512_768 (runMid.sl.v238 (F := Ideal) c arg10 harg10 arg11 xs1) (mid_inv_512 ..) y), (fun y => codes_piece_of arg10 harg10 xs1 0 inb_S1024x128_S512x128_0_0 arg9 harg9 xs0 768 inb_S1024x2560_S512x256_0_768 (runMid.sl.v188 (F := Ideal) c arg10 harg10 arg11 xs1) (mid_inv_0 ..) y), (fun y => codes_piece_of arg10 harg10 xs1 512 inb_S1024x128_S512x128_512_0 arg9 harg9 xs0 512 inb_S1024x2560_S512x256_512_512 (runMid.sl.v238 (F := Ideal) c arg10 harg10 arg11 xs1) (mid_inv_512 ..) y), (fun y => codes_piece_of arg10 harg10 xs1 0 inb_S1024x128_S512x128_0_0 arg9 harg9 xs0 512 inb_S1024x2560_S512x256_0_512 (runMid.sl.v188 (F := Ideal) c arg10 harg10 arg11 xs1) (mid_inv_0 ..) y), (fun y => codes_piece_of arg10 harg10 xs1 512 inb_S1024x128_S512x128_512_0 arg9 harg9 xs0 256 inb_S1024x2560_S512x256_512_256 (runMid.sl.v238 (F := Ideal) c arg10 harg10 arg11 xs1) (mid_inv_512 ..) y), (fun y => codes_piece_of arg10 harg10 xs1 0 inb_S1024x128_S512x128_0_0 arg9 harg9 xs0 256 inb_S1024x2560_S512x256_0_256 (runMid.sl.v188 (F := Ideal) c arg10 harg10 arg11 xs1) (mid_inv_0 ..) y), (fun y => codes_piece_of arg10 harg10 xs1 512 inb_S1024x128_S512x128_512_0 arg9 harg9 xs0 0 inb_S1024x2560_S512x256_512_0 (runMid.sl.v238 (F := Ideal) c arg10 harg10 arg11 xs1) (mid_inv_512 ..) y), (fun y => codes_piece_of arg10 harg10 xs1 0 inb_S1024x128_S512x128_0_0 arg9 harg9 xs0 0 inb_S1024x2560_S512x256_0_0 (runMid.sl.v188 (F := Ideal) c arg10 harg10 arg11 xs1) (mid_inv_0 ..) y), trivial⟩

theorem mid_codes_cover : ∀ y, ∃ p ∈ (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).1, y ∈ p.1.set := fun y => by
  unfold runMid; dsimp only
  exact View.cover_of_tiledL _ ![512, 256] (by sl_kernel_rfl) y

/-- The scales the body leaves. -/
theorem mid_scale_pieces : View.PiecesOf (SB xs1) (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.1 := by
  unfold runMid; dsimp only
  exact ⟨fun y => scale_piece arg10 harg10 xs1 512 inb_S1024x128_S512x128_512_0 inb_S1024x1_S512x1_512_0 y, fun y => scale_piece arg10 harg10 xs1 0 inb_S1024x128_S512x128_0_0 inb_S1024x1_S512x1_0_0 y, trivial⟩

theorem mid_scale_cover : ∀ y, ∃ p ∈ (runMid (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.1, y ∈ p.1.set := fun y => by
  unfold runMid; dsimp only
  exact View.cover_of_tiledL _ ![512, 1] (by sl_kernel_rfl) y

end Mid

section Last

variable (c : Dev nD) (i : grid0.Coords) (arg1 : Memref sig .tc .vmem S1024x1664 .fp8e4m3) (harg1 : arg1.IsWhole) (arg2 : Memref sig .tc .vmem S1024x1 .f32) (harg2 : arg2.IsWhole) (arg3 : Memref sig .tc .vmem S1664x2560 .fp8e4m3) (harg3 : arg3.IsWhole) (arg4 : Memref sig .tc .vmem S1x2560 .f32) (harg4 : arg4.IsWhole) (arg5 : Memref sig .tc .vmem S1664x2560 .fp8e4m3) (harg5 : arg5.IsWhole) (arg6 : Memref sig .tc .vmem S1x2560 .f32) (harg6 : arg6.IsWhole) (arg7 : Memref sig .tc .vmem S1024x2560 .fp8e4m3) (harg7 : arg7.IsWhole) (arg8 : Memref sig .tc .vmem S1024x1 .f32) (harg8 : arg8.IsWhole) (arg9 : Memref sig .tc .vmem S1024x2560 .f32) (harg9 : arg9.IsWhole) (arg10 : Memref sig .tc .vmem S1024x128 .f32) (harg10 : arg10.IsWhole) (arg11 : Memref sig .tc .vmem S1024x128 .f32) (harg11 : arg11.IsWhole) (hc1 : ¬k0_cond1 i = 1#1) (hc2 : k0_cond2 i = 1#1)
    (x0 : Vec Ideal S1024x1664 .fp8e4m3) (x1 : Vec Ideal S1024x1 .f32) (x2 : Vec Ideal S1664x2560 .fp8e4m3) (x3 : Vec Ideal S1x2560 .f32) (x4 : Vec Ideal S1664x2560 .fp8e4m3) (x5 : Vec Ideal S1x2560 .f32) (xs0 : Vec Ideal S1024x2560 .f32) (xs1 : Vec Ideal S1024x128 .f32)

/-- The stores of the inverse scales, -/
theorem last_inv : runLast.sl.HS2_2 (F := Ideal) c arg10 harg10 xs1 = [⟨(Rect.unit (s := S1024x128) ![512, 0] ![512, 128] inb_S1024x128_S512x128_512_0), invT arg10 harg10 xs1 512 inb_S1024x128_S512x128_512_0⟩, ⟨(Rect.unit (s := S1024x128) ![0, 0] ![512, 128] inb_S1024x128_S512x128_0_0), invT arg10 harg10 xs1 0 inb_S1024x128_S512x128_0_0⟩] := rfl
/-- and what is read back of them. -/
theorem last_inv_0 : runLast.sl.v188 (F := Ideal) c arg10 harg10 arg11 xs1 = invT arg10 harg10 xs1 0 inb_S1024x128_S512x128_0_0 := by
  show arg11.view.readCov (runLast.sl.HS2_2 (F := Ideal) c arg10 harg10 xs1) (Rect.unit (s := S1024x128) ![0, 0] ![512, 128] inb_S1024x128_S512x128_0_0).toLoadRect = _
  rw [last_inv, View.readCov_skip _ _ _ _ _ (by decide +kernel), View.readCov_cons_toLoadRect]
theorem last_inv_512 : runLast.sl.v198 (F := Ideal) c arg10 harg10 arg11 xs1 = invT arg10 harg10 xs1 512 inb_S1024x128_S512x128_512_0 := by
  show arg11.view.readCov (runLast.sl.HS2_2 (F := Ideal) c arg10 harg10 xs1) (Rect.unit (s := S1024x128) ![512, 0] ![512, 128] inb_S1024x128_S512x128_512_0).toLoadRect = _
  rw [last_inv, View.readCov_cons_toLoadRect]

/-- The codes the body leaves. -/
theorem last_codes_pieces : View.PiecesOf (QB xs0 xs1) (runLast (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).1 := by
  unfold runLast; dsimp only
  exact ⟨(fun y => codes_piece_of arg10 harg10 xs1 512 inb_S1024x128_S512x128_512_0 arg9 harg9 xs0 2304 inb_S1024x2560_S512x256_512_2304 (runLast.sl.v198 (F := Ideal) c arg10 harg10 arg11 xs1) (last_inv_512 ..) y), (fun y => codes_piece_of arg10 harg10 xs1 0 inb_S1024x128_S512x128_0_0 arg9 harg9 xs0 2304 inb_S1024x2560_S512x256_0_2304 (runLast.sl.v188 (F := Ideal) c arg10 harg10 arg11 xs1) (last_inv_0 ..) y), (fun y => codes_piece_of arg10 harg10 xs1 512 inb_S1024x128_S512x128_512_0 arg9 harg9 xs0 2048 inb_S1024x2560_S512x256_512_2048 (runLast.sl.v198 (F := Ideal) c arg10 harg10 arg11 xs1) (last_inv_512 ..) y), (fun y => codes_piece_of arg10 harg10 xs1 0 inb_S1024x128_S512x128_0_0 arg9 harg9 xs0 2048 inb_S1024x2560_S512x256_0_2048 (runLast.sl.v188 (F := Ideal) c arg10 harg10 arg11 xs1) (last_inv_0 ..) y), (fun y => codes_piece_of arg10 harg10 xs1 512 inb_S1024x128_S512x128_512_0 arg9 harg9 xs0 1792 inb_S1024x2560_S512x256_512_1792 (runLast.sl.v198 (F := Ideal) c arg10 harg10 arg11 xs1) (last_inv_512 ..) y), (fun y => codes_piece_of arg10 harg10 xs1 0 inb_S1024x128_S512x128_0_0 arg9 harg9 xs0 1792 inb_S1024x2560_S512x256_0_1792 (runLast.sl.v188 (F := Ideal) c arg10 harg10 arg11 xs1) (last_inv_0 ..) y), (fun y => codes_piece_of arg10 harg10 xs1 512 inb_S1024x128_S512x128_512_0 arg9 harg9 xs0 1536 inb_S1024x2560_S512x256_512_1536 (runLast.sl.v198 (F := Ideal) c arg10 harg10 arg11 xs1) (last_inv_512 ..) y), (fun y => codes_piece_of arg10 harg10 xs1 0 inb_S1024x128_S512x128_0_0 arg9 harg9 xs0 1536 inb_S1024x2560_S512x256_0_1536 (runLast.sl.v188 (F := Ideal) c arg10 harg10 arg11 xs1) (last_inv_0 ..) y), (fun y => codes_piece_of arg10 harg10 xs1 512 inb_S1024x128_S512x128_512_0 arg9 harg9 xs0 1280 inb_S1024x2560_S512x256_512_1280 (runLast.sl.v198 (F := Ideal) c arg10 harg10 arg11 xs1) (last_inv_512 ..) y), (fun y => codes_piece_of arg10 harg10 xs1 0 inb_S1024x128_S512x128_0_0 arg9 harg9 xs0 1280 inb_S1024x2560_S512x256_0_1280 (runLast.sl.v188 (F := Ideal) c arg10 harg10 arg11 xs1) (last_inv_0 ..) y), (fun y => codes_piece_of arg10 harg10 xs1 512 inb_S1024x128_S512x128_512_0 arg9 harg9 xs0 1024 inb_S1024x2560_S512x256_512_1024 (runLast.sl.v198 (F := Ideal) c arg10 harg10 arg11 xs1) (last_inv_512 ..) y), (fun y => codes_piece_of arg10 harg10 xs1 0 inb_S1024x128_S512x128_0_0 arg9 harg9 xs0 1024 inb_S1024x2560_S512x256_0_1024 (runLast.sl.v188 (F := Ideal) c arg10 harg10 arg11 xs1) (last_inv_0 ..) y), (fun y => codes_piece_of arg10 harg10 xs1 512 inb_S1024x128_S512x128_512_0 arg9 harg9 xs0 768 inb_S1024x2560_S512x256_512_768 (runLast.sl.v198 (F := Ideal) c arg10 harg10 arg11 xs1) (last_inv_512 ..) y), (fun y => codes_piece_of arg10 harg10 xs1 0 inb_S1024x128_S512x128_0_0 arg9 harg9 xs0 768 inb_S1024x2560_S512x256_0_768 (runLast.sl.v188 (F := Ideal) c arg10 harg10 arg11 xs1) (last_inv_0 ..) y), (fun y => codes_piece_of arg10 harg10 xs1 512 inb_S1024x128_S512x128_512_0 arg9 harg9 xs0 512 inb_S1024x2560_S512x256_512_512 (runLast.sl.v198 (F := Ideal) c arg10 harg10 arg11 xs1) (last_inv_512 ..) y), (fun y => codes_piece_of arg10 harg10 xs1 0 inb_S1024x128_S512x128_0_0 arg9 harg9 xs0 512 inb_S1024x2560_S512x256_0_512 (runLast.sl.v188 (F := Ideal) c arg10 harg10 arg11 xs1) (last_inv_0 ..) y), (fun y => codes_piece_of arg10 harg10 xs1 512 inb_S1024x128_S512x128_512_0 arg9 harg9 xs0 256 inb_S1024x2560_S512x256_512_256 (runLast.sl.v198 (F := Ideal) c arg10 harg10 arg11 xs1) (last_inv_512 ..) y), (fun y => codes_piece_of arg10 harg10 xs1 0 inb_S1024x128_S512x128_0_0 arg9 harg9 xs0 256 inb_S1024x2560_S512x256_0_256 (runLast.sl.v188 (F := Ideal) c arg10 harg10 arg11 xs1) (last_inv_0 ..) y), (fun y => codes_piece_of arg10 harg10 xs1 512 inb_S1024x128_S512x128_512_0 arg9 harg9 xs0 0 inb_S1024x2560_S512x256_512_0 (runLast.sl.v198 (F := Ideal) c arg10 harg10 arg11 xs1) (last_inv_512 ..) y), (fun y => codes_piece_of arg10 harg10 xs1 0 inb_S1024x128_S512x128_0_0 arg9 harg9 xs0 0 inb_S1024x2560_S512x256_0_0 (runLast.sl.v188 (F := Ideal) c arg10 harg10 arg11 xs1) (last_inv_0 ..) y), trivial⟩

theorem last_codes_cover : ∀ y, ∃ p ∈ (runLast (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).1, y ∈ p.1.set := fun y => by
  unfold runLast; dsimp only
  exact View.cover_of_tiledL _ ![512, 256] (by sl_kernel_rfl) y

/-- The scales the body leaves. -/
theorem last_scale_pieces : View.PiecesOf (SB xs1) (runLast (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.1 := by
  unfold runLast; dsimp only
  exact ⟨fun y => scale_piece arg10 harg10 xs1 512 inb_S1024x128_S512x128_512_0 inb_S1024x1_S512x1_512_0 y, fun y => scale_piece arg10 harg10 xs1 0 inb_S1024x128_S512x128_0_0 inb_S1024x1_S512x1_0_0 y, trivial⟩

theorem last_scale_cover : ∀ y, ∃ p ∈ (runLast (F := Ideal) c i arg1 harg1 arg2 harg2 arg3 harg3 arg4 harg4 arg5 harg5 arg6 harg6 arg7 harg7 arg8 harg8 arg9 harg9 arg10 harg10 arg11 harg11 hc1 hc2 x0 x1 x2 x3 x4 x5 xs0 xs1).2.1, y ∈ p.1.set := fun y => by
  unfold runLast; dsimp only
  exact View.cover_of_tiledL _ ![512, 1] (by sl_kernel_rfl) y

end Last

end Cert.KernelIdeal.Gen
end
-- ==== Proof.KernelRun.lean ====
/- The kernel's run with what it leaves in its two results, over the extended reals. Between the grid's points the scratch buffers carry a block's
   products and their lane maxima; at the point after, the outputs' buffers are left at that block's codes and scales. -/
module

public import proofs.«01_k».proof.Proof.RunValue
public import proofs.«01_k».proof.Proof.FrameRun
public import Idealize.ShloMosaic.Lib.Pipeline.Value
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The point before point `k`, at most the last that computes products. -/
def pt (k : ℕ) : Fin cfg0.N := ⟨min (k - 1) 23, by rw [show cfg0.N = 25 from N_0]; omega⟩

/-- The products which the scratch buffer carries into point `k`: those of the point before. -/
def hp (c : Dev nD) (k : ℕ) : Vec Ideal S1024x2560 .f32 :=
  HB (iblk m c 0 (pt k)) (iblk m c 1 (pt k)) (iblk m c 2 (pt k)) (iblk m c 3 (pt k)) (iblk m c 4 (pt k)) (iblk m c 5 (pt k))

theorem hp_succ (c : Dev nD) (t : Fin cfg0.N) (h : t.val < 24) :
    hp m c (t.val + 1) = HB (iblk m c 0 t) (iblk m c 1 t) (iblk m c 2 t) (iblk m c 3 t) (iblk m c 4 t) (iblk m c 5 t) := by
  have : pt (t.val + 1) = t := Fin.ext (by show min (t.val + 1 - 1) 23 = t.val; omega)
  unfold hp; rw [this]

theorem hp_last (c : Dev nD) (t : Fin cfg0.N) (h : ¬ t.val < 24) : hp m c (t.val + 1) = hp m c t.val := by
  have h25 : t.val < 25 := lt_of_lt_of_eq t.isLt N_0
  have : pt (t.val + 1) = pt t.val := Fin.ext (by show min (t.val + 1 - 1) 23 = min (t.val - 1) 23; omega)
  unfold hp; rw [this]

/-- What the scratch buffers hold before point `k`. -/
def PhiV (c : Dev nD) (k : ℕ) : sProp 𝕄 :=
  iprop(∃ s0 s1, ⌜k ≠ 0 → s0 = hp m c k ∧ s1 = AMB (hp m c k)⌝ ∗ owns (c : Thread nD τ) scr0 fullShare s0 ∗ owns (c : Thread nD τ) scr1 fullShare s1
    ∗ (∃ d, owns (c : Thread nD τ) scr2 fullShare d) ∗ (∃ r, prngReg c r))

theorem PhiV_in (c : Dev nD) : (Pipeline.ΦA spec0 c : sProp 𝕄) ⊢ PhiV m c 0 := by
  rw [PhiA_eq]; unfold PhiV
  iintro ⟨⟨⟨%s0, HS0⟩, ⟨%s1, HS1⟩, HS2⟩, Hg⟩
  iexists s0; iexists s1
  isplitr; · ipureintro; exact fun h => absurd rfl h
  isplitl [HS0]; · iexact HS0
  isplitl [HS1]; · iexact HS1
  isplitl [HS2]; · iexact HS2
  iexact Hg

theorem PhiV_out (c : Dev nD) (k : ℕ) : PhiV m c k ⊢ (Pipeline.ΦA spec0 c : sProp 𝕄) := by
  rw [PhiA_eq]; unfold PhiV
  iintro ⟨%s0, %s1, -, HS0, HS1, HS2, Hg⟩
  isplitl [HS0 HS1 HS2]
  · isplitl [HS0]; · iexists s0; iexact HS0
    isplitl [HS1]; · iexists s1; iexact HS1
    iexact HS2
  iexact Hg

/-- Proof data which name what the inputs' buffers and the scratch buffers hold. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ k := PhiV m c k.val
  q _ := fullShare
  owed _ := 0

/-- What the body leaves in the outputs' buffers, at every point but the first. -/
def Rl (c : Dev nD) (w : Fin cfg0.W) (t : Fin cfg0.N) (X : (cfg0.win w).block.Idx → Elt Ideal (cfg0.win w).elt) : Prop := match w with
  | ⟨0, _⟩ => True
  | ⟨1, _⟩ => True
  | ⟨2, _⟩ => True
  | ⟨3, _⟩ => True
  | ⟨4, _⟩ => True
  | ⟨5, _⟩ => True
  | ⟨6, _⟩ => t.val ≠ 0 → X = QB (hp m c t.val) (AMB (hp m c t.val))
  | ⟨7, _⟩ => t.val ≠ 0 → X = SB (AMB (hp m c t.val))

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d

/-- The body at point `t`, from its windows one by one to its windows one by one. -/
theorem vsound (c : Dev nD) (t : Fin cfg0.N) :
    iprop(PhiV m c t.val ∗ (vdats m 0 c).owesAt () t.castSucc
    ∗ (∃ d, owns (c : Thread nD τ) (stg0 t) fullShare ((vdats m 0 c).before 0 t d))
    ∗ (∃ d, owns (c : Thread nD τ) (stg1 t) fullShare ((vdats m 0 c).before 1 t d))
    ∗ (∃ d, owns (c : Thread nD τ) (stg2 t) fullShare ((vdats m 0 c).before 2 t d))
    ∗ (∃ d, owns (c : Thread nD τ) (stg3 t) fullShare ((vdats m 0 c).before 3 t d))
    ∗ (∃ d, owns (c : Thread nD τ) (stg4 t) fullShare ((vdats m 0 c).before 4 t d))
    ∗ (∃ d, owns (c : Thread nD τ) (stg5 t) fullShare ((vdats m 0 c).before 5 t d))
    ∗ (∃ Y, ⌜((vdats m 0 c).toRRel fgt (Rl m c)).Finds 6 t Y⌝ ∗ owns (c : Thread nD τ) (stg6 t) fullShare Y)
    ∗ (∃ Y, ⌜((vdats m 0 c).toRRel fgt (Rl m c)).Finds 7 t Y⌝ ∗ owns (c : Thread nD τ) (stg7 t) fullShare Y))
    ⊢ wp Idealize.ShloMosaic.frame (wpE (defs₀ (F := Ideal)) Variants.none c none) Set.univ (bodyAt0 t) (fun _ => iprop(PhiV m c (t.val + 1) ∗ (vdats m 0 c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ (∃ X, ⌜Rl m c 6 t X⌝ ∗ owns (c : Thread nD τ) (stg6 t) fullShare X)
    ∗ (∃ X, ⌜Rl m c 7 t X⌝ ∗ owns (c : Thread nD τ) (stg7 t) fullShare X))) := by
  unfold bodyAt0
  simp only [vbefore_0, vbefore_1, vbefore_2, vbefore_3, vbefore_4, vbefore_5]
  unfold PhiV
  by_cases h1 : t.val < 24
  · have h2 : ¬ k0_cond2 (grid0.coords t) = 1#1 := fun h => (cond2_iff t).mp h h1
    iintro ⟨⟨%s0, %s1, %hs, HS0, HS1, HS2, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩⟩
    iapply ((runMid (F := Ideal) c (grid0.coords t) _ _ _ _ _ _ _ _ _ _ _ _ _ _ _ _ _ _ _ _ _ _ ((cond1_iff t).mpr h1) h2 (iblk m c 0 t) (iblk m c 1 t) (iblk m c 2 t) (iblk m c 3 t) (iblk m c 4 t) (iblk m c 5 t) s0 s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, ⟨%es0, HS0⟩, ⟨%es1, HS1⟩, ⟨%fT2, HS2⟩⟩
    isplitl [HS0 HS1 HS2 Hg]
    · iexists (hp m c (t.val + 1)); iexists (AMB (hp m c (t.val + 1)))
      isplitr; · ipureintro; exact fun _ => ⟨rfl, rfl⟩
      isplitl [HS0]
      · unfold owns; iexists _; isplitr
        swap; · iexact HS0
        ipureintro; rw [hp_succ m c t h1]; exact read_writes_of_pieces _ _ _ _ (mid_h_pieces ..) (fun y => mid_h_cover ..)
      isplitl [HS1]
      · unfold owns; iexists _; isplitr
        swap; · iexact HS1
        ipureintro; rw [hp_succ m c t h1]; exact mid_am ..
      isplitl [HS2]
      · iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists (QB s0 s1); isplitr
      · ipureintro; exact fun h => by rw [(hs h).2, (hs h).1]
      unfold owns; iexists _; isplitr
      swap; · iexact H6
      ipureintro; exact read_writes_of_pieces _ _ _ _ (mid_codes_pieces ..) (fun y => mid_codes_cover ..)
    iexists (SB s1); isplitr
    · ipureintro; exact fun h => by rw [(hs h).2]
    unfold owns; iexists _; isplitr
    swap; · iexact H7
    ipureintro; exact read_writes_of_pieces _ _ _ _ (mid_scale_pieces ..) (fun y => mid_scale_cover ..)
  · have h2 : ¬ k0_cond1 (grid0.coords t) = 1#1 := fun h => h1 ((cond1_iff t).mp h)
    iintro ⟨⟨%s0, %s1, %hs, HS0, HS1, HS2, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩⟩
    iapply ((runLast (F := Ideal) c (grid0.coords t) _ _ _ _ _ _ _ _ _ _ _ _ _ _ _ _ _ _ _ _ _ _ h2 ((cond2_iff t).mpr h1) (iblk m c 0 t) (iblk m c 1 t) (iblk m c 2 t) (iblk m c 3 t) (iblk m c 4 t) (iblk m c 5 t) s0 s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, HS0, HS1, ⟨%fT2, HS2⟩⟩
    isplitl [HS0 HS1 HS2 Hg]
    · iexists s0; iexists s1
      isplitr; · ipureintro; rw [hp_last m c t h1]; exact fun _ => hs (by omega)
      isplitl [HS0]; · iexact HS0
      isplitl [HS1]; · iexact HS1
      isplitl [HS2]
      · iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists (QB s0 s1); isplitr
      · ipureintro; exact fun h => by rw [(hs h).2, (hs h).1]
      unfold owns; iexists _; isplitr
      swap; · iexact H6
      ipureintro; exact read_writes_of_pieces _ _ _ _ (last_codes_pieces ..) (fun y => last_codes_cover ..)
    iexists (SB s1); isplitr
    · ipureintro; exact fun h => by rw [(hs h).2]
    unfold owns; iexists _; isplitr
    swap; · iexact H7
    ipureintro; exact read_writes_of_pieces _ _ _ _ (last_scale_pieces ..) (fun y => last_scale_cover ..)

/-- The library's body obligation at every point. -/
theorem vbody (c : Dev nD) : Pipeline.BodyObligationRel (vdats m 0 c) (defs₀ (F := Ideal)) Variants.none () Set.univ fgt (Rl m c) := fun t => by
  rw [bigSep_W0, bigSep_W0, defs₀_row]
  exact triple_restated (vsound m c t) rfl .rfl fun _ => .rfl

/-- The relational proof data of the run. -/
def rdats (c : Dev nD) : Pipeline.RDat τ (Elt Ideal) Unit ℕ (UR sig nD τ) ℕ cfg0 c := (vdats m 0 c).toRRel fgt (Rl m c)

set_option backward.isDefEq.respectTransparency.types false in
/-- The run of `main`, the outputs' blocks held to what the body leaves. -/
theorem vrun : θ_run defs (onTc (τ := τ) (main (F := Ideal))) (s₀ m ρ) (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (vbody m c).toRRel) (hshare := fun c => (vdats m 0 c).share_full fun _ => rfl)
    (howed := fun _ _ => rfl) (V := V m) (hmain := hmain m Variants.none) (hA := vA_eq m) (hin := fun c => PhiV_in m c) (hout := fun c => PhiV_out m c _)

end Cert.KernelIdeal.Gen

end
-- ==== Proof.Rows.lean ====
/- The two results of the kernel row by row, as functions of the arguments: the row's products, its largest magnitude, the scale found from that,
   and the codes. The kernel's block values are the rows' values. -/
module

public import proofs.«01_k».proof.Proof.Model

@[expose] public section

set_option maxRecDepth 16384

noncomputable section

namespace Cert.KernelIdeal.Gen

open Idealize.ShloMosaic Idealize.ShloMosaic.TcCoe Idealize.ShloMosaic.Tactic

/-- The products of row `r`, from the six arguments. -/
def rowH (X : Vec Ideal S24576x1664 .fp8e4m3) (XS : Vec Ideal S24576x1 .f32) (WG : Vec Ideal S1664x2560 .fp8e4m3) (GS : Vec Ideal S1x2560 .f32)
    (WU : Vec Ideal S1664x2560 .fp8e4m3) (US : Vec Ideal S1x2560 .f32) (r : Fin 24576) (j : Fin 2560) : EReal :=
  hval (fun k => X (ix2 r k)) (XS (ix2 r 0)) (fun k => WG (ix2 k j)) (fun k => WU (ix2 k j)) (GS (ix2 0 j)) (US (ix2 0 j))

/-- The scale before it is rounded to a power of two: the row's largest magnitude over the largest code. -/
def rowT (h : Fin 2560 → EReal) : EReal :=
  Finset.fold max (Ideal.ofBits .f32 0xFF800000#32) (fun j => FloatOps.absf (F := Ideal) (φ := .f32) (h j)) Finset.univ * Ideal.ofBits .f32 0x3B124925#32

/-- The scale of a row. -/
def rowS (h : Fin 2560 → EReal) : EReal := scaleS (rowT h)

/-- The codes of a row. -/
def rowQ (h : Fin 2560 → EReal) (j : Fin 2560) : EReal :=
  min (Ideal.ofBits .f32 0x43E00000#32) (max (Ideal.ofBits .f32 0xC3E00000#32) (h j * invS (rowT h)))

theorem laneN_le (hq : ℕ → EReal) (l k : ℕ) (b : EReal) :
    laneN hq l k ≤ b ↔ FloatOps.absf (F := Ideal) (φ := .f32) (hq (256 * k + l)) ≤ b ∧ FloatOps.absf (F := Ideal) (φ := .f32) (hq (256 * k + 128 + l)) ≤ b :=
  max_le_iff

theorem amN_le (hq : ℕ → EReal) (l n : ℕ) (b : EReal) : amN hq l n ≤ b ↔ ∀ k, k ≤ n → laneN hq l k ≤ b := by
  induction n with
  | zero =>
    show laneN hq l 0 ≤ b ↔ _
    exact ⟨fun h k hk => by obtain rfl : k = 0 := by omega
                            exact h, fun h => h 0 le_rfl⟩
  | succ n ih =>
    show max (amN hq l n) (laneN hq l (n + 1)) ≤ b ↔ _
    rw [max_le_iff, ih]
    refine ⟨fun h k hk => ?_, fun h => ⟨fun k hk => h k (by omega), h _ le_rfl⟩⟩
    rcases Nat.lt_or_ge n k with h1 | h1
    · obtain rfl : k = n + 1 := by omega
      exact h.2
    · exact h.1 k h1

/-- The largest over the lanes of the lanes' largest is the row's largest. -/
theorem tS_AMB (h : Vec Ideal S1024x2560 .f32) (p : Fin 1024) : tS (AMB h) p = rowT (fun j => h (ix2 p j)) := by
  unfold tS rowT
  refine congrArg (· * _) (eq_of_forall_ge_iff fun b => ?_)
  rw [Finset.fold_max_le, Finset.fold_max_le]
  refine and_congr_right fun _ => ⟨fun H j _ => ?_, fun H l _ => ?_⟩
  · have hj := j.isLt
    have h1 := (amN_le _ _ _ _).mp (H ⟨j.val % 128, by omega⟩ (Finset.mem_univ _)) (j.val / 256) (by omega)
    have h2 := (laneN_le _ _ _ _).mp h1
    have hr : ∀ q, q = j.val → rowN h p.val q = h (ix2 p j) := fun q e => by rw [e]; exact rowN_of h p.val j.val p.isLt hj
    rcases Nat.lt_or_ge (j.val % 256) 128 with h3 | h3
    · exact (congrArg (FloatOps.absf (F := Ideal) (φ := .f32)) (hr (256 * (j.val / 256) + j.val % 128) (by omega))).symm.trans_le h2.1
    · exact (congrArg (FloatOps.absf (F := Ideal) (φ := .f32)) (hr (256 * (j.val / 256) + 128 + j.val % 128) (by omega))).symm.trans_le h2.2
  · have hl : l.val < 128 := l.isLt
    refine (amN_le _ _ _ _).mpr fun k hk => (laneN_le _ _ _ _).mpr ⟨?_, ?_⟩
    · have e : rowN h p.val (256 * k + l.val) = h (ix2 p ⟨256 * k + l.val, by omega⟩) := rowN_of h p.val _ p.isLt (by omega)
      exact (congrArg (FloatOps.absf (F := Ideal) (φ := .f32)) e).trans_le (H _ (Finset.mem_univ _))
    · have e : rowN h p.val (256 * k + 128 + l.val) = h (ix2 p ⟨256 * k + 128 + l.val, by omega⟩) := rowN_of h p.val _ p.isLt (by omega)
      exact (congrArg (FloatOps.absf (F := Ideal) (φ := .f32)) e).trans_le (H _ (Finset.mem_univ _))

theorem SB_row (h : Vec Ideal S1024x2560 .f32) (p : Fin 1024) (z : Fin 1) : SB (AMB h) (ix2 p z) = rowS (fun j => h (ix2 p j)) := by
  show scaleS (tS (AMB h) p) = _
  rw [tS_AMB]; rfl

theorem QB_row (h : Vec Ideal S1024x2560 .f32) (p : Fin 1024) (j : Fin 2560) : QB h (AMB h) (ix2 p j) = rowQ (fun j => h (ix2 p j)) j := by
  show min _ (max _ (h (ix2 p j) * invS (tS (AMB h) p))) = _
  rw [tS_AMB]; rfl

end Cert.KernelIdeal.Gen

end
-- ==== Proof.KernelValue.lean ====
/- The arrays the kernel leaves: the codes and the scales of every row, as functions of the arguments. -/
module

public import proofs.«01_k».proof.Proof.KernelRun
public import proofs.«01_k».proof.Proof.Rows
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window RDat)

variable (m : (ℓ : Loc nD τ sig) → Buf (Elt Ideal) ℓ) (ρ : Dev nD → PrngReg)

/-- The products of row `r` of the launch memory's arguments. -/
def kH (c : Dev nD) (r : Fin 24576) (j : Fin 2560) : EReal :=
  rowH (V m c main_v0) (V m c main_v1) (V m c main_arg2) (V m c main_v2) (V m c main_arg4) (V m c main_v3) r j

/-- The codes. -/
def kQ (c : Dev nD) : Vec Ideal S24576x2560 .fp8e4m3 := fun y => rowQ (kH m c (y 0)) (y 1)

/-- The scales. -/
def kS (c : Dev nD) : Vec Ideal S24576x1 .f32 := fun y => rowS (kH m c (y 0))

theorem idx0 : ∀ t : Fin grid0.N, win0_0.index t = ![min t.val 23, 0] := by decide +kernel
theorem idx1 : ∀ t : Fin grid0.N, win0_1.index t = ![min t.val 23, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val - 1, 0] := by decide +kernel
theorem idx7 : ∀ t : Fin grid0.N, win0_7.index t = ![t.val - 1, 0] := by decide +kernel
theorem flush6 : ∀ t : Fin grid0.N, win0_6.flush t = true → t.val ≠ 0 := by decide +kernel
theorem flush7 : ∀ t : Fin grid0.N, win0_7.flush t = true → t.val ≠ 0 := by decide +kernel

theorem ix2_0 {a b : ℕ} (i : Fin a) (j : Fin b) : (ix2 i j : Shape.Idx ⟨2, ![a, b]⟩) 0 = i := rfl
theorem ix2_1 {a b : ℕ} (i : Fin a) (j : Fin b) : (ix2 i j : Shape.Idx ⟨2, ![a, b]⟩) 1 = j := rfl

/-- The products carried into point `k` are those of the rows whose codes point `k` writes back. -/
theorem hp_row (c : Dev nD) (k : ℕ) (h0 : k ≠ 0) (h1 : k < 25) (p : Fin 1024) (j : Fin 2560) (r : Fin 24576) (hr : r.val = 1024 * (k - 1) + p.val) :
    hp m c k (ix2 p j) = kH m c r j := by
  have hp' := p.isLt
  have e0 : ∀ q : Fin 1664, iblk m c 0 (pt k) (ix2 p q) = V m c main_v0 (ix2 r q) := fun q => by
    unfold iblk; blk_ext [idx0, pt]
  have e1 : iblk m c 1 (pt k) (ix2 p 0) = V m c main_v1 (ix2 r 0) := by
    unfold iblk; blk_ext [idx1, pt]
  have e2 : ∀ q : Fin 1664, iblk m c 2 (pt k) (ix2 q j) = V m c main_arg2 (ix2 q j) := fun q => by
    unfold iblk; blk_ext [idx2]
  have e3 : iblk m c 3 (pt k) (ix2 0 j) = V m c main_v2 (ix2 0 j) := by
    unfold iblk; blk_ext [idx3]
  have e4 : ∀ q : Fin 1664, iblk m c 4 (pt k) (ix2 q j) = V m c main_arg4 (ix2 q j) := fun q => by
    unfold iblk; blk_ext [idx4]
  have e5 : iblk m c 5 (pt k) (ix2 0 j) = V m c main_v3 (ix2 0 j) := by
    unfold iblk; blk_ext [idx5]
  show hval (fun q => iblk m c 0 (pt k) (ix2 p q)) (iblk m c 1 (pt k) (ix2 p 0)) (fun q => iblk m c 2 (pt k) (ix2 q j))
    (fun q => iblk m c 4 (pt k) (ix2 q j)) (iblk m c 3 (pt k) (ix2 0 j)) (iblk m c 5 (pt k) (ix2 0 j)) = _
  rw [e1, e3, e5, funext e0, funext e2, funext e4]; rfl

theorem cov6 : win0_6.Covers := by decide +kernel
theorem cov7 : win0_7.Covers := by decide +kernel

/-- The kernel's run leaves the rows' codes and scales in its two results, and the arguments as they were. -/
theorem kernel_value : θ_run defs (onTc (τ := τ) (main (F := Ideal))) ⟨m, fun _ => 0, ρ⟩ (fun r => ∀ c : Dev nD,
    r.2.mem ((c.tc : Thread nD τ).loc main_v4_0) = kQ m c ∧ r.2.mem ((c.tc : Thread nD τ).loc main_v4_1) = kS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (vrun m ρ)
  obtain ⟨after, hL, hA⟩ := RDat.FramePost.exists_exact h.1 c
  refine ⟨?_, ?_, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((vA_eq m c 2).trans (V_main_arg2 m c)),
      ((h.1 c).2 main_arg3 (Pipeline.mem_restRefs_of main_arg3 (by decide) (by decide))).trans (V_main_arg3 m c),
      (h.1.arr_in c 4 rfl).trans ((vA_eq m c 4).trans (V_main_arg4 m c)),
      ((h.1 c).2 main_arg5 (Pipeline.mem_restRefs_of main_arg5 (by decide) (by decide))).trans (V_main_arg5 m c)⟩
  · refine (hA 6).trans (Pipeline.Dat.arrAt_eq_of_covers ((rdats m c).withAfter after) 6 (kQ m c) cov6 fun t hf y => ?_)
    have hne := flush6 t hf
    have hL6 : after 6 t = QB (hp m c t.val) (AMB (hp m c t.val)) := Dat.toRRel_leaves (dat := vdats m 0 c) (by rfl) (hL 6 t hf) hne
    have h25 : t.val < 25 := lt_of_lt_of_eq t.isLt N_0
    blk_simp
    rw [Pipeline.RDat.withAfter_after, hL6]
    obtain ⟨p, j, rfl⟩ : ∃ (p : Fin 1024) (j : Fin 2560), y = ix2 p j := ⟨y 0, y 1, eq_ix2 y⟩
    rw [QB_row]
    have hq := p.isLt
    have he : ((cfg0.win 6).blk t).view.emb (ix2 p j) = ix2 (⟨1024 * (t.val - 1) + p.val, by omega⟩ : Fin 24576) j := by
      blk_ext [idx6]
    rw [he]
    exact congrArg (rowQ · j) (funext fun j' => hp_row m c t.val hne h25 p j' _ rfl)
  · refine (hA 7).trans (Pipeline.Dat.arrAt_eq_of_covers ((rdats m c).withAfter after) 7 (kS m c) cov7 fun t hf y => ?_)
    have hne := flush7 t hf
    have hL7 : after 7 t = SB (AMB (hp m c t.val)) := Dat.toRRel_leaves (dat := vdats m 0 c) (by rfl) (hL 7 t hf) hne
    have h25 : t.val < 25 := lt_of_lt_of_eq t.isLt N_0
    blk_simp
    rw [Pipeline.RDat.withAfter_after, hL7]
    obtain ⟨p, j, rfl⟩ : ∃ (p : Fin 1024) (j : Fin 1), y = ix2 p j := ⟨y 0, y 1, eq_ix2 y⟩
    rw [SB_row]
    have hq := p.isLt
    have he : ((cfg0.win 7).blk t).view.emb (ix2 p j) = ix2 (⟨1024 * (t.val - 1) + p.val, by omega⟩ : Fin 24576) j := by
      blk_ext [idx7]
    rw [he]
    exact congrArg rowS (funext fun j' => hp_row m c t.val hne h25 p j' _ rfl)

end Cert.KernelIdeal.Gen

end
-- ==== Proof.Expo.lean ====
/- The scale as a power of two: the kernel finds its exponent by a search over powers of two, the reference by the logarithm. The two agree at
   every extended real. -/
module

public import proofs.«01_k».proof.Proof.Model

@[expose] public section

set_option maxRecDepth 16384

noncomputable section

namespace Cert.KernelIdeal.Gen

open Idealize.ShloMosaic Idealize.ShloMosaic.TcCoe Idealize.ShloMosaic.Tactic

/-- The fields of the pattern whose exponent bits are `n` and whose other bits are zero. -/
theorem fields : ∀ n : Fin 256, ((BitVec.ofNat 32 n.val <<< 23).extractLsb' (8 + 23) 1 == 1#1) = false
    ∧ ((BitVec.ofNat 32 n.val <<< 23).extractLsb' 23 8).toNat = n.val ∧ ((BitVec.ofNat 32 n.val <<< 23).extractLsb' 0 23).toNat = 0 := by
  decide +kernel

/-- The pattern with exponent bits `n` denotes a power of two. -/
theorem ofBits_pow (n : ℕ) (h0 : 1 ≤ n) (h1 : n ≤ 254) : Ideal.ofBits .f32 (BitVec.ofNat 32 n <<< 23) = (((2 : ℝ) ^ ((n : ℤ) - 127) : ℝ) : EReal) := by
  obtain ⟨f0, f1, f2⟩ := fields ⟨n, by omega⟩
  show Ideal.ieee 8 23 (BitVec.ofNat 32 n <<< 23) = _
  unfold Ideal.ieee
  simp only at f0 f1 f2
  simp only [f0, f1, f2]
  rw [if_neg (by norm_num; omega), if_neg (by omega)]
  refine congrArg _ ?_
  have e : (8388608 : ℝ) = (2 : ℝ) ^ (23 : ℤ) := by norm_num
  simp only [Bool.false_eq_true, if_false, Nat.add_zero, one_mul]
  push_cast
  rw [e, ← zpow_add₀ (by norm_num)]
  exact congrArg (fun k : ℤ => (2 : ℝ) ^ k) (by omega)

/-- All exponent bits set: the infinity. -/
theorem ofBits_top : Ideal.ofBits .f32 (BitVec.ofNat 32 255 <<< 23) = ⊤ := by
  obtain ⟨f0, f1, f2⟩ := fields ⟨255, by omega⟩
  show Ideal.ieee 8 23 (BitVec.ofNat 32 255 <<< 23) = _
  unfold Ideal.ieee
  simp only at f0 f1 f2
  simp only [f0, f1, f2]
  simp

theorem lo_pow : Ideal.ofBits .f32 0x00800000#32 = (((2 : ℝ) ^ (-126 : ℤ) : ℝ) : EReal) :=
  (congrArg (Ideal.ofBits .f32) (by decide : (0x00800000#32 : BitVec 32) = BitVec.ofNat 32 1 <<< 23)).trans (ofBits_pow 1 (by norm_num) (by norm_num))

theorem hi_pow : Ideal.ofBits .f32 0x7B800000#32 = (((2 : ℝ) ^ (120 : ℤ) : ℝ) : EReal) :=
  (congrArg (Ideal.ofBits .f32) (by decide : (0x7B800000#32 : BitVec 32) = BitVec.ofNat 32 247 <<< 23)).trans (ofBits_pow 247 (by norm_num) (by norm_num))

/-- The exponent found by the logarithm: zero where the quotient is below the least normal number or at the cut-off or above it. -/
def eR (t : EReal) : EReal :=
  Scalar.select (IntOp.ori (FloatOps.cmpf (F := Ideal) (φ := .f32) .olt t (Ideal.ofBits .f32 0x00800000#32))
    (FloatOps.cmpf (F := Ideal) (φ := .f32) .oge t (Ideal.ofBits .f32 0x7B800000#32))) 0
    (Ideal.liftRound Int.floor (Ideal.div (Ideal.log t) ((Real.log 2 : ℝ) : EReal)) + 1)

/-- Where the search's answer is `N`: below the cut-off, a power of two with exponent bits `n` is at most `t` just when `n ≤ N`. -/
def Answer (t : EReal) (N : ℕ) : Prop := N ≤ 246 ∧ ∀ n : ℕ, 1 ≤ n → n ≤ 255 → (Ideal.ofBits .f32 (BitVec.ofNat 32 n <<< 23) ≤ t ↔ n ≤ N)

theorem cmp_oge (t c : EReal) : (FloatOps.cmpf (F := Ideal) (φ := .f32) .oge t c = 1) ↔ c ≤ t := by
  show BitVec.ofBool (decide (c ≤ t)) = 1 ↔ _
  by_cases h : c ≤ t <;> simp [h]

theorem cmp_olt (t c : EReal) : (FloatOps.cmpf (F := Ideal) (φ := .f32) .olt t c = 1) ↔ t < c := by
  show BitVec.ofBool (decide (t < c)) = 1 ↔ _
  by_cases h : t < c <;> simp [h]

theorem or_one (a b : BitVec 1) : (IntOp.ori a b = 1) ↔ (a = 1 ∨ b = 1) := by
  revert a b; decide

theorem sel_pos {α : Type} {c : BitVec 1} (a b : α) (h : c = 1) : Scalar.select c a b = a := if_pos h
theorem sel_neg {α : Type} {c : BitVec 1} (a b : α) (h : ¬ c = 1) : Scalar.select c a b = b := if_neg h

/-- One step of the search over the numbers. -/
def st (N e b : ℕ) : ℕ := if e + b ≤ N then e + b else e

theorem st_le (N e b : ℕ) : st N e b ≤ e + b := by unfold st; split <;> omega

theorem stepS_eq {t : EReal} {N : ℕ} (h : Answer t N) (e b : ℕ) (h0 : 1 ≤ e + b) (h1 : e + b ≤ 255) :
    stepS t (BitVec.ofNat 32 e) (BitVec.ofNat 32 b) = BitVec.ofNat 32 (st N e b) := by
  have ha : IntOp.addi (BitVec.ofNat 32 e) (BitVec.ofNat 32 b) = BitVec.ofNat 32 (e + b) := (BitVec.ofNat_add e b).symm
  have hs : IntOp.shli .vector (BitVec.ofNat 32 (e + b)) 23#32 = BitVec.ofNat 32 (e + b) <<< 23 := by
    unfold IntOp.shli; rw [if_pos (by decide)]; rfl
  unfold stepS st
  rw [ha, hs]
  by_cases hn : e + b ≤ N
  · rw [if_pos hn, sel_pos _ _ ((cmp_oge _ _).mpr ((h.2 _ h0 h1).mpr hn))]
  · rw [if_neg hn, sel_neg _ _ (mt (cmp_oge _ _).mp (mt (h.2 _ h0 h1).mp hn))]

/-- The search over the numbers finds `N`. -/
theorem st_all : ∀ N : Fin 247, st N.val (st N.val (st N.val (st N.val (st N.val (st N.val (st N.val (st N.val 0 128) 64) 32) 16) 8) 4) 2) 1 = N.val := by
  decide +kernel

theorem expS_eq {t : EReal} {N : ℕ} (h : Answer t N) : expS t = BitVec.ofNat 32 N := by
  have hN := h.1
  have hc : ¬ Ideal.ofBits .f32 0x7B800000#32 ≤ t := by
    have := h.2 247 (by norm_num) (by norm_num)
    rw [show (0x7B800000#32 : BitVec 32) = BitVec.ofNat 32 247 <<< 23 from by decide, this]
    omega
  have l1 := st_le N 0 128
  have l2 := st_le N (st N 0 128) 64
  have l3 := st_le N (st N (st N 0 128) 64) 32
  have l4 := st_le N (st N (st N (st N 0 128) 64) 32) 16
  have l5 := st_le N (st N (st N (st N (st N 0 128) 64) 32) 16) 8
  have l6 := st_le N (st N (st N (st N (st N (st N 0 128) 64) 32) 16) 8) 4
  have l7 := st_le N (st N (st N (st N (st N (st N (st N 0 128) 64) 32) 16) 8) 4) 2
  unfold expS
  rw [sel_neg _ _ (mt (cmp_oge _ _).mp hc), stepS_eq h 0 128 (by omega) (by omega), stepS_eq h _ 64 (by omega) (by omega), stepS_eq h _ 32 (by omega) (by omega),
    stepS_eq h _ 16 (by omega) (by omega), stepS_eq h _ 8 (by omega) (by omega), stepS_eq h _ 4 (by omega) (by omega),
    stepS_eq h _ 2 (by omega) (by omega), stepS_eq h _ 1 (by omega) (by omega)]
  exact congrArg (BitVec.ofNat 32) (st_all ⟨N, by omega⟩)

/-- The exponent of the scale from the search's answer. -/
def eB (n : BitVec 32) : BitVec 32 := Scalar.select (IntOp.ori (IntOp.cmpi .eq n 0#32) (IntOp.cmpi .eq n 255#32)) 0#32 (IntOp.subi n 126#32)

theorem scale_bits : ∀ N : Fin 247, N.val ≠ 0 →
    IntOp.shli .vector (IntOp.addi 127#32 (eB (BitVec.ofNat 32 N.val))) 23#32 = BitVec.ofNat 32 (N.val + 1) <<< 23
      ∧ IntOp.shli .vector (IntOp.subi 127#32 (eB (BitVec.ofNat 32 N.val))) 23#32 = BitVec.ofNat 32 (253 - N.val) <<< 23 := by
  decide +kernel

theorem scale_one (n : BitVec 32) (h : n = 0#32 ∨ n = 255#32) :
    IntOp.shli .vector (IntOp.addi 127#32 (eB n)) 23#32 = BitVec.ofNat 32 127 <<< 23
      ∧ IntOp.shli .vector (IntOp.subi 127#32 (eB n)) 23#32 = BitVec.ofNat 32 127 <<< 23 := by
  rcases h with rfl | rfl <;> decide +kernel

theorem eR_zero (t : EReal) (h : t < Ideal.ofBits .f32 0x00800000#32 ∨ Ideal.ofBits .f32 0x7B800000#32 ≤ t) : eR t = 0 := by
  unfold eR
  refine sel_pos _ _ ?_
  rw [or_one, cmp_olt, cmp_oge]
  exact h

theorem scale_at_one (t : EReal) (h : expS t = 0#32 ∨ expS t = 255#32) : scaleS t = (((2 : ℝ) ^ (0 : ℤ) : ℝ) : EReal) ∧ invS t = (((2 : ℝ) ^ (-0 : ℤ) : ℝ) : EReal) := by
  obtain ⟨h1, h2⟩ := scale_one _ h
  refine ⟨(congrArg (Ideal.ofBits .f32) h1).trans ((ofBits_pow 127 (by norm_num) (by norm_num)).trans ?_),
    (congrArg (Ideal.ofBits .f32) h2).trans ((ofBits_pow 127 (by norm_num) (by norm_num)).trans ?_)⟩ <;> norm_num

theorem coe_le {x y : ℝ} : ((x : ℝ) : EReal) ≤ (y : EReal) ↔ x ≤ y := EReal.coe_le_coe_iff

/-- The scale and its inverse are the powers of two to an integer and to its negative, and that integer is the one the logarithm gives. -/
theorem scale_spec (t : EReal) : ∃ z : ℤ, scaleS t = (((2 : ℝ) ^ z : ℝ) : EReal) ∧ invS t = (((2 : ℝ) ^ (-z) : ℝ) : EReal) ∧ eR t = (((z : ℤ) : ℝ) : EReal) := by
  rcases le_or_gt (Ideal.ofBits .f32 0x7B800000#32) t with hhi | hhi
  · refine ⟨0, (scale_at_one t (.inr ?_)).1, (scale_at_one t (.inr ?_)).2, (eR_zero t (.inr hhi)).trans (by simp)⟩ <;>
    · unfold expS
      exact sel_pos _ _ ((cmp_oge _ _).mpr hhi)
  rcases lt_or_ge t (Ideal.ofBits .f32 0x00800000#32) with hlo | hlo
  · have hA : Answer t 0 := by
      refine ⟨by omega, fun n h0 h1 => ⟨fun hn => ?_, fun hn => by omega⟩⟩
      exfalso
      refine absurd hn (not_le.mpr (hlo.trans_le ?_))
      rcases Nat.lt_or_ge 254 n with h2 | h2
      · obtain rfl : n = 255 := by omega
        rw [ofBits_top]; exact le_top
      · rw [ofBits_pow n h0 h2, lo_pow, coe_le]
        exact zpow_le_zpow_right₀ (by norm_num) (by omega)
    refine ⟨0, (scale_at_one t (.inl (expS_eq hA))).1, (scale_at_one t (.inl (expS_eq hA))).2, (eR_zero t (.inl hlo)).trans (by simp)⟩
  -- the quotient is a real number between the two bounds
  rw [hi_pow] at hhi
  rw [lo_pow] at hlo
  induction t using EReal.rec with
  | bot => exact absurd hlo (by simp)
  | top => exact absurd hhi (by simp)
  | coe r =>
    rw [coe_le] at hlo
    rw [EReal.coe_lt_coe_iff] at hhi
    have hr : (0 : ℝ) < r := lt_of_lt_of_le (by positivity) hlo
    have hl : 0 < Real.log 2 := Real.log_pos (by norm_num)
    obtain ⟨z, hz⟩ : ∃ z : ℤ, ⌊Real.log r / Real.log 2⌋ = z := ⟨_, rfl⟩
    have key : ∀ x : ℤ, (2 : ℝ) ^ x ≤ r ↔ x ≤ z := fun x => by
      rw [← hz, Int.le_floor, le_div_iff₀ hl, ← Real.log_zpow, Real.log_le_log_iff (by positivity) hr]
    have z0 : -126 ≤ z := (key _).mp hlo
    have z1 : z < 120 := by
      by_contra hc
      exact absurd ((key 120).mpr (by omega)) (not_le.mpr hhi)
    obtain ⟨N, hN⟩ : ∃ N : ℕ, (N : ℤ) = z + 127 := ⟨(z + 127).toNat, by omega⟩
    have hA : Answer (r : EReal) N := by
      refine ⟨by omega, fun n h0 h1 => ?_⟩
      rcases Nat.lt_or_ge 254 n with h2 | h2
      · obtain rfl : n = 255 := by omega
        rw [ofBits_top]
        exact ⟨fun h => absurd h (by simp), fun h => by omega⟩
      · rw [ofBits_pow n h0 h2, coe_le, key]
        omega
    have hE := expS_eq hA
    obtain ⟨b1, b2⟩ := scale_bits ⟨N, by omega⟩ (by simp only; omega)
    refine ⟨z + 1, ?_, ?_, ?_⟩
    · show Ideal.ofBits .f32 (IntOp.shli .vector (IntOp.addi 127#32 (eB (expS r))) 23#32) = _
      rw [hE, b1, ofBits_pow _ (by omega) (by simp only; omega)]
      congr 2
      push_cast
      omega
    · show Ideal.ofBits .f32 (IntOp.shli .vector (IntOp.subi 127#32 (eB (expS r))) 23#32) = _
      rw [hE, b2, ofBits_pow _ (by simp only; omega) (by omega)]
      congr 2
      rw [Nat.cast_sub (by simp only; omega)]
      push_cast
      omega
    · unfold eR
      rw [sel_neg]
      · have e1 : Ideal.log ((r : ℝ) : EReal) = ((Real.log r : ℝ) : EReal) := if_neg (not_le.mpr hr)
        have e2 : Ideal.div ((Real.log r : ℝ) : EReal) ((Real.log 2 : ℝ) : EReal) = ((Real.log r / Real.log 2 : ℝ) : EReal) := by
          unfold Ideal.div
          rw [if_neg (by rw [EReal.coe_eq_zero]; exact ne_of_gt hl), ← EReal.coe_inv, ← EReal.coe_mul, div_eq_mul_inv]
        rw [e1, e2]
        show (((⌊Real.log r / Real.log 2⌋ : ℤ) : ℝ) : EReal) + 1 = _
        rw [hz]
        push_cast
        rfl
      · rw [or_one, cmp_olt, cmp_oge, lo_pow, hi_pow, coe_le, EReal.coe_lt_coe_iff]
        rintro (h | h)
        · exact absurd h (not_lt.mpr hlo)
        · exact absurd h (not_le.mpr hhi)

/-- A power of two to an integer. -/
theorem exp2_int (z : ℤ) : Ideal.exp2 (((z : ℤ) : ℝ) : EReal) = (((2 : ℝ) ^ z : ℝ) : EReal) := by
  show ((Real.rpow 2 (z : ℝ) : ℝ) : EReal) = _
  exact congrArg _ (Real.rpow_intCast 2 z)

/-- The kernel's scale is two to the reference's exponent. -/
theorem scaleS_eq (t : EReal) : scaleS t = Ideal.exp2 (eR t) := by
  obtain ⟨z, h1, _, h3⟩ := scale_spec t
  rw [h1, h3, exp2_int]

/-- The kernel's inverse scale is two to the negative of the reference's exponent. -/
theorem invS_eq (t : EReal) : invS t = Ideal.exp2 (0 - eR t) := by
  obtain ⟨z, _, h2, h3⟩ := scale_spec t
  rw [h2, h3, zero_sub, ← EReal.coe_neg, ← Int.cast_neg, exp2_int]

end Cert.KernelIdeal.Gen

end
-- ==== Proof.RefValue.lean ====
/- The reference's results: the codes and the scales of every row, as functions of the arguments, in the kernel's terms. -/
module

public import proofs.«01_k».proof.Proof.Gen.ReferenceIdeal.Frame
public import proofs.«01_k».proof.Proof.Rows
public import proofs.«01_k».proof.Proof.Expo
public import Idealize.ShloMosaic.Lib.Pipeline.ValueKit
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open Idealize.SL.Sem
open Idealize.ShloMosaic.Pipeline (Dat Cfg Window)
open Cert.KernelIdeal.Gen (rowH rowT rowS rowQ hval eR scaleS_eq invS_eq eR_zero lo_pow)

/-- The logistic function's two spellings. -/
theorem logistic_eq (g : EReal) : Ideal.logistic g = Ideal.div 1 (1 + Ideal.exp (0 - g)) := by
  unfold Ideal.logistic; rw [zero_sub]

section Body

variable (X : Vec Ideal S24576x1664 .fp8e4m3) (XS : Vec Ideal S24576x1 .f32) (WG : Vec Ideal S1664x2560 .fp8e4m3) (GS : Vec Ideal S1x2560 .f32)
  (WU : Vec Ideal S1664x2560 .fp8e4m3) (US : Vec Ideal S1x2560 .f32)

/-- The product at a row and a column. -/
theorem pay4_apply (r : Fin 24576) (j : Fin 2560) :
    k0_pay4 (F := Ideal) X WG X WU XS GS XS US (ix2 r j) = rowH X XS WG GS WU US r j := by
  pointwise [k0_pay4, rowH, hval]
  rw [logistic_eq]

/-- The row's largest magnitude, -/
theorem pay5_apply (r : Fin 24576) (z : Fin 1) :
    k0_pay5 (F := Ideal) X WG X WU XS GS XS US (ix2 r z)
      = Finset.fold max (Ideal.ofBits .f32 0xFF800000#32) (fun j => FloatOps.absf (F := Ideal) (φ := .f32) (rowH X XS WG GS WU US r j)) Finset.univ := by
  unfold k0_pay5
  simp only [← pay4_apply]
  generalize k0_pay4 (F := Ideal) X WG X WU XS GS XS US = h
  pointwise

theorem mul6_apply (a : FVec Ideal S24576x1 .f32) (r : Fin 24576) (z : Fin 1) :
    mulf a (broadcast S24576x1 (Scalar.ofBits (F := Ideal) .f32 0x3B124925#32)) (ix2 r z) = a (ix2 r z) * Ideal.ofBits .f32 0x3B124925#32 := by
  pointwise

theorem log7_apply (t : FVec Ideal S24576x1 .f32) (r : Fin 24576) (z : Fin 1) :
    addf (floor (divf (log t) (broadcast S24576x1 (Named.named (F := Ideal) κ "ln2" (φ := .f32) 0x3F317218#32)))) (broadcast S24576x1 (Scalar.ofBits (F := Ideal) .f32 0x3F800000#32)) (ix2 r z)
      = Ideal.liftRound Int.floor (Ideal.div (Ideal.log (t (ix2 r z))) ((Real.log 2 : ℝ) : EReal)) + 1 := by
  pointwise
  rfl

/-- the quotient, -/
theorem pay6_apply (r : Fin 24576) (z : Fin 1) : k0_pay6 (F := Ideal) X WG X WU XS GS XS US (ix2 r z) = rowT (rowH X XS WG GS WU US r) := by
  have h5 := pay5_apply X XS WG GS WU US r z
  unfold k0_pay6
  generalize k0_pay5 (F := Ideal) X WG X WU XS GS XS US = a at h5 ⊢
  unfold rowT
  generalize Finset.fold max (Ideal.ofBits .f32 0xFF800000#32) (fun j => FloatOps.absf (F := Ideal) (φ := .f32) (rowH X XS WG GS WU US r j)) Finset.univ = b at h5 ⊢
  rw [← h5]
  exact mul6_apply a r z

/-- and the exponent by the logarithm, where the quotient is a normal number. -/
theorem pay7_apply (r : Fin 24576) (z : Fin 1) : k0_pay7 (F := Ideal) X WG X WU XS GS XS US (ix2 r z)
    = Ideal.liftRound Int.floor (Ideal.div (Ideal.log (rowT (rowH X XS WG GS WU US r))) ((Real.log 2 : ℝ) : EReal)) + 1 := by
  have h6 := pay6_apply X XS WG GS WU US r z
  unfold k0_pay7
  generalize k0_pay6 (F := Ideal) X WG X WU XS GS XS US = t at h6 ⊢
  generalize rowT (rowH X XS WG GS WU US r) = b at h6 ⊢
  rw [← h6]
  exact log7_apply t r z

/-- The exponent as the body selects it. -/
theorem pay1_apply (a t e : FVec Ideal S24576x1 .f32) (y : S24576x1.Idx) (b : EReal) (ha : a y = b) (ht : t y = b * Ideal.ofBits .f32 0x3B124925#32)
    (he : e y = Ideal.liftRound Int.floor (Ideal.div (Ideal.log (t y)) ((Real.log 2 : ℝ) : EReal)) + 1) :
    k0_pay1 (F := Ideal) a t e y = eR (t y) := by
  have h1 : k0_pay1 (F := Ideal) a t e y = Scalar.select (FloatOps.cmpf (F := Ideal) (φ := .f32) .oeq (a y) (Ideal.ofBits .f32 0x00000000#32)) (Ideal.ofBits .f32 0x00000000#32)
      (Scalar.select (IntOp.ori (FloatOps.cmpf (F := Ideal) (φ := .f32) .olt (t y) (Ideal.ofBits .f32 0x00800000#32))
        (FloatOps.cmpf (F := Ideal) (φ := .f32) .oge (t y) (Ideal.ofBits .f32 0x7B800000#32))) (Ideal.ofBits .f32 0x00000000#32) (e y)) := rfl
  rw [h1, he, Ideal.ofBits_zero_f32]
  by_cases h0 : b = 0
  · rw [ht, ha, h0, zero_mul, eR_zero 0 (.inl ?_)]
    · exact Cert.KernelIdeal.Gen.sel_pos _ _ (by show BitVec.ofBool (decide ((0 : EReal) = 0)) = 1; simp)
    · rw [lo_pow, ← EReal.coe_zero, EReal.coe_lt_coe_iff]; positivity
  · exact Cert.KernelIdeal.Gen.sel_neg _ _ (by rw [ha]; show ¬ BitVec.ofBool (decide (b = 0)) = 1; simp [h0])

/-- The exponent of a row. -/
theorem exponent_apply (r : Fin 24576) (z : Fin 1) :
    k0_pay1 (F := Ideal) (k0_pay5 X WG X WU XS GS XS US) (k0_pay6 X WG X WU XS GS XS US) (k0_pay7 X WG X WU XS GS XS US) (ix2 r z)
      = eR (rowT (rowH X XS WG GS WU US r)) := by
  have h5 := pay5_apply X XS WG GS WU US r z
  have h6 := pay6_apply X XS WG GS WU US r z
  have h7 := pay7_apply X XS WG GS WU US r z
  have ht : rowT (rowH X XS WG GS WU US r) = Finset.fold max (Ideal.ofBits .f32 0xFF800000#32) (fun j => FloatOps.absf (F := Ideal) (φ := .f32) (rowH X XS WG GS WU US r j)) Finset.univ * Ideal.ofBits .f32 0x3B124925#32 := by
    unfold rowT; with_reducible rfl
  generalize k0_pay5 (F := Ideal) X WG X WU XS GS XS US = a at h5 ⊢
  generalize k0_pay6 (F := Ideal) X WG X WU XS GS XS US = t at h6 ⊢
  generalize k0_pay7 (F := Ideal) X WG X WU XS GS XS US = e at h7 ⊢
  generalize Finset.fold max (Ideal.ofBits .f32 0xFF800000#32) (fun j => FloatOps.absf (F := Ideal) (φ := .f32) (rowH X XS WG GS WU US r j)) Finset.univ = b at h5 ht
  generalize rowT (rowH X XS WG GS WU US r) = T at h6 h7 ht ⊢
  rw [← h6] at h7 ht ⊢
  exact pay1_apply a t e (ix2 r z) b h5 ht h7

theorem pay2_apply (a t e : FVec Ideal S24576x1 .f32) (y : S24576x1.Idx) : k0_pay2 (F := Ideal) a t e y = Ideal.exp2 (k0_pay1 (F := Ideal) a t e y) := rfl

theorem pay3_apply (h : FVec Ideal S24576x2560 .f32) (a t e : FVec Ideal S24576x1 .f32) (r : Fin 24576) (j : Fin 2560) :
    k0_pay3 (F := Ideal) h a t e (ix2 r j) = min (Ideal.ofBits .f32 0x43E00000#32) (max (Ideal.ofBits .f32 0xC3E00000#32)
      (h (ix2 r j) * Ideal.exp2 (0 - k0_pay1 (F := Ideal) a t e (ix2 r 0)))) := by
  unfold k0_pay3
  generalize k0_pay1 (F := Ideal) a t e = p
  pointwise
  rfl

theorem hz : (![0, 0] : Fin 2 → Nat) = fun _ => 0 := by funext a; fin_cases a <;> rfl

theorem ld0 (x : Vec Ideal S24576x1664 .fp8e4m3) : View.ld (Val := Elt Ideal) x r0_0 = x := View.ld_unit_zero (S := S24576x1664) (off := ![0, 0]) hz inb_S24576x1664_S24576x1664_0_0 x
theorem ld1 (x : Vec Ideal S1664x2560 .fp8e4m3) : View.ld (Val := Elt Ideal) x r0_1 = x := View.ld_unit_zero (S := S1664x2560) (off := ![0, 0]) hz inb_S1664x2560_S1664x2560_0_0 x
theorem ld2 (x : Vec Ideal S24576x1 .f32) : View.ld (Val := Elt Ideal) x r0_2 = x := View.ld_unit_zero (S := S24576x1) (off := ![0, 0]) hz inb_S24576x1_S24576x1_0_0 x
theorem ld3 (x : Vec Ideal S1x2560 .f32) : View.ld (Val := Elt Ideal) x r0_3 = x := View.ld_unit_zero (S := S1x2560) (off := ![0, 0]) hz inb_S1x2560_S1x2560_0_0 x
theorem canon2 (v : Vec Ideal S24576x1 .f32) : View.canon (Val := Elt Ideal) [⟨r0_2, v⟩] = v := View.canon_unit_zero (S := S24576x1) (off := ![0, 0]) hz inb_S24576x1_S24576x1_0_0 v
theorem canon4 (v : Vec Ideal S24576x2560 .fp8e4m3) : View.canon (Val := Elt Ideal) [⟨r0_4, v⟩] = v := View.canon_unit_zero (S := S24576x2560) (off := ![0, 0]) hz inb_S24576x2560_S24576x2560_0_0 v

/-- The scale of a row. -/
theorem out7_apply (r : Fin 24576) (z : Fin 1) : out0_7 (F := Ideal) X XS WG GS WU US (ix2 r z) = rowS (rowH X XS WG GS WU US r) := by
  unfold out0_7 k0_pay8 k0_pay9 k0_pay10
  rw [canon2, ld0, ld1, ld1, ld2, ld3, ld3, pay2_apply, exponent_apply]
  unfold rowS
  rw [scaleS_eq]

/-- The codes of a row. -/
theorem out6_apply (r : Fin 24576) (j : Fin 2560) : out0_6 (F := Ideal) X XS WG GS WU US (ix2 r j) = rowQ (rowH X XS WG GS WU US r) j := by
  unfold out0_6 k0_pay8 k0_pay9 k0_pay10
  rw [canon4, ld0, ld1, ld1, ld2, ld3, ld3, pay3_apply, exponent_apply, pay4_apply]
  unfold rowQ
  rw [invS_eq]

end Body

variable (m : (ℓ : Loc nD τ sig) → Buf (Elt Ideal) ℓ) (ρ : Dev nD → PrngReg)

/-- The products of row `r` of the launch memory's arguments. -/
def rH (c : Dev nD) (r : Fin 24576) (j : Fin 2560) : EReal :=
  rowH (V m c main_v0) (V m c main_v1) (V m c main_arg2) (V m c main_v2) (V m c main_arg4) (V m c main_v3) r j

/-- The codes. -/
def rQ (c : Dev nD) : Vec Ideal S24576x2560 .fp8e4m3 := fun y => rowQ (rH m c (y 0)) (y 1)

/-- The scales. -/
def rS (c : Dev nD) : Vec Ideal S24576x1 .f32 := fun y => rowS (rH m c (y 0))

theorem cov6 : win0_6.Covers := by decide +kernel
theorem cov7 : win0_7.Covers := by decide +kernel
theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel

theorem blk0 (c : Dev nD) (t : Fin cfg0.N) : iblk m c 0 t = V m c main_v0 := funext fun y => by unfold iblk; blk_ext [idx0]
theorem blk1 (c : Dev nD) (t : Fin cfg0.N) : iblk m c 1 t = V m c main_v1 := funext fun y => by unfold iblk; blk_ext [idx1]
theorem blk2 (c : Dev nD) (t : Fin cfg0.N) : iblk m c 2 t = V m c main_arg2 := funext fun y => by unfold iblk; blk_ext [idx2]
theorem blk3 (c : Dev nD) (t : Fin cfg0.N) : iblk m c 3 t = V m c main_v2 := funext fun y => by unfold iblk; blk_ext [idx3]
theorem blk4 (c : Dev nD) (t : Fin cfg0.N) : iblk m c 4 t = V m c main_arg4 := funext fun y => by unfold iblk; blk_ext [idx4]
theorem blk5 (c : Dev nD) (t : Fin cfg0.N) : iblk m c 5 t = V m c main_v3 := funext fun y => by unfold iblk; blk_ext [idx5]

/-- The reference's run leaves the rows' codes and scales in its two results. -/
theorem ref_value : θ_run defs (onTc (τ := τ) (main (F := Ideal))) ⟨m, fun _ => 0, ρ⟩ (fun r => ∀ c : Dev nD,
    r.2.mem ((c.tc : Thread nD τ).loc main_v4_0) = rQ m c ∧ r.2.mem ((c.tc : Thread nD τ).loc main_v4_1) = rS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  refine ⟨((h c).1 6).trans ?_, ((h c).1 7).trans ?_, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩
  · refine Pipeline.Dat.arrAt_eq_of_covers (dats m 0 c) 6 (rQ m c) cov6 fun t hf y => ?_
    blk_simp
    rw [after0_6, blk0, blk1, blk2, blk3, blk4, blk5]
    obtain ⟨p, j, rfl⟩ : ∃ (p : Fin 24576) (j : Fin 2560), y = ix2 p j := ⟨y 0, y 1, eq_ix2 y⟩
    have he : ((cfg0.win 6).blk t).view.emb (ix2 p j) = ix2 p j := by blk_ext [idx6]
    rw [he]
    exact out6_apply _ _ _ _ _ _ p j
  · refine Pipeline.Dat.arrAt_eq_of_covers (dats m 0 c) 7 (rS m c) cov7 fun t hf y => ?_
    blk_simp
    rw [after0_7, blk0, blk1, blk2, blk3, blk4, blk5]
    obtain ⟨p, j, rfl⟩ : ∃ (p : Fin 24576) (j : Fin 1), y = ix2 p j := ⟨y 0, y 1, eq_ix2 y⟩
    have he : ((cfg0.win 7).blk t).view.emb (ix2 p j) = ix2 p j := by blk_ext [idx7]
    rw [he]
    exact out7_apply _ _ _ _ _ _ p j

end Cert.ReferenceIdeal.Gen

end
-- ==== Proof.Agree.lean ====
/- The kernel and the reference leave the same arrays when they start from the same arguments. -/
module

public import proofs.«01_k».proof.Defs
public import proofs.«01_k».proof.Proof.KernelValue
public import proofs.«01_k».proof.Proof.RefValue

@[expose] public section

noncomputable section

namespace Cert.Agree

open Idealize.ShloMosaic Idealize.ShloMosaic.TcCoe Idealize.ShloMosaic.Tactic
open Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Equal activations give equal flattened activations. -/
theorem v0_eq (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.V m' c Cert.ReferenceIdeal.main_v0 = Cert.KernelIdeal.Gen.V m c Cert.KernelIdeal.main_v0 := by
  have a : Cert.KernelIdeal.Gen.V m c Cert.KernelIdeal.main_v0
      = shapeCast _ (m ((c.tc : Thread Cert.KernelIdeal.nD Cert.KernelIdeal.τ).loc Cert.KernelIdeal.main_arg0)) Cert.KernelIdeal.Facts₀.shapeCasts_S6x4096x1664_S24576x1664 := by
    simp only [Cert.KernelIdeal.Gen.V, Cert.KernelIdeal.Gen.hostOps0]
    after_results
    rfl
  have b : Cert.ReferenceIdeal.Gen.V m' c Cert.ReferenceIdeal.main_v0
      = shapeCast _ (m' ((c.tc : Thread Cert.ReferenceIdeal.nD Cert.ReferenceIdeal.τ).loc Cert.ReferenceIdeal.main_arg0)) Cert.ReferenceIdeal.Facts₀.shapeCasts_S6x4096x1664_S24576x1664 := by
    simp only [Cert.ReferenceIdeal.Gen.V, Cert.ReferenceIdeal.Gen.hostOps0]
    after_results
    rfl
  rw [a, b]
  exact congrArg (fun x => shapeCast _ x _) h

/-- Equal token scales give equal flattened token scales. -/
theorem v1_eq (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Gen.V m' c Cert.ReferenceIdeal.main_v1 = Cert.KernelIdeal.Gen.V m c Cert.KernelIdeal.main_v1 := by
  have a : Cert.KernelIdeal.Gen.V m c Cert.KernelIdeal.main_v1
      = shapeCast _ (m ((c.tc : Thread Cert.KernelIdeal.nD Cert.KernelIdeal.τ).loc Cert.KernelIdeal.main_arg1)) Cert.KernelIdeal.Facts₀.shapeCasts_S6x4096x1_S24576x1 := by
    simp only [Cert.KernelIdeal.Gen.V, Cert.KernelIdeal.Gen.hostOps0]
    after_results
    rfl
  have b : Cert.ReferenceIdeal.Gen.V m' c Cert.ReferenceIdeal.main_v1
      = shapeCast _ (m' ((c.tc : Thread Cert.ReferenceIdeal.nD Cert.ReferenceIdeal.τ).loc Cert.ReferenceIdeal.main_arg1)) Cert.ReferenceIdeal.Facts₀.shapeCasts_S6x4096x1_S24576x1 := by
    simp only [Cert.ReferenceIdeal.Gen.V, Cert.ReferenceIdeal.Gen.hostOps0]
    after_results
    rfl
  rw [a, b]
  exact congrArg (fun x => shapeCast _ x _) h

/-- Equal gate scales give equal rows of gate scales. -/
theorem v2_eq (c : Dev Cert.KernelIdeal.nD)
    (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Gen.V m' c Cert.ReferenceIdeal.main_v2 = Cert.KernelIdeal.Gen.V m c Cert.KernelIdeal.main_v2 := by
  have a : Cert.KernelIdeal.Gen.V m c Cert.KernelIdeal.main_v2
      = shapeCast _ (m ((c.tc : Thread Cert.KernelIdeal.nD Cert.KernelIdeal.τ).loc Cert.KernelIdeal.main_arg3)) Cert.KernelIdeal.Facts₀.shapeCasts_S2560_S1x2560 := by
    simp only [Cert.KernelIdeal.Gen.V, Cert.KernelIdeal.Gen.hostOps0]
    after_results
    rfl
  have b : Cert.ReferenceIdeal.Gen.V m' c Cert.ReferenceIdeal.main_v2
      = shapeCast _ (m' ((c.tc : Thread Cert.ReferenceIdeal.nD Cert.ReferenceIdeal.τ).loc Cert.ReferenceIdeal.main_arg3)) Cert.ReferenceIdeal.Facts₀.shapeCasts_S2560_S1x2560 := by
    simp only [Cert.ReferenceIdeal.Gen.V, Cert.ReferenceIdeal.Gen.hostOps0]
    after_results
    rfl
  rw [a, b]
  exact congrArg (fun x => shapeCast _ x _) h

/-- Equal up scales give equal rows of up scales. -/
theorem v3_eq (c : Dev Cert.KernelIdeal.nD)
    (h : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.Gen.V m' c Cert.ReferenceIdeal.main_v3 = Cert.KernelIdeal.Gen.V m c Cert.KernelIdeal.main_v3 := by
  have a : Cert.KernelIdeal.Gen.V m c Cert.KernelIdeal.main_v3
      = shapeCast _ (m ((c.tc : Thread Cert.KernelIdeal.nD Cert.KernelIdeal.τ).loc Cert.KernelIdeal.main_arg5)) Cert.KernelIdeal.Facts₀.shapeCasts_S2560_S1x2560 := by
    simp only [Cert.KernelIdeal.Gen.V, Cert.KernelIdeal.Gen.hostOps0]
    after_results
    rfl
  have b : Cert.ReferenceIdeal.Gen.V m' c Cert.ReferenceIdeal.main_v3
      = shapeCast _ (m' ((c.tc : Thread Cert.ReferenceIdeal.nD Cert.ReferenceIdeal.τ).loc Cert.ReferenceIdeal.main_arg5)) Cert.ReferenceIdeal.Facts₀.shapeCasts_S2560_S1x2560 := by
    simp only [Cert.ReferenceIdeal.Gen.V, Cert.ReferenceIdeal.Gen.hostOps0]
    after_results
    rfl
  rw [a, b]
  exact congrArg (fun x => shapeCast _ x _) h

section Rows

variable (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include h0 h1 h2 h3 h4 h5

/-- Equal arguments give equal products, -/
theorem H_eq : Cert.ReferenceIdeal.Gen.rH m' c = Cert.KernelIdeal.Gen.kH m c := by
  funext r j
  unfold Cert.ReferenceIdeal.Gen.rH Cert.KernelIdeal.Gen.kH
  rw [v0_eq m m' c h0, v1_eq m m' c h1, v2_eq m m' c h3, v3_eq m m' c h5,
    (Cert.ReferenceIdeal.Gen.V_main_arg2 m' c).trans (h2.trans (Cert.KernelIdeal.Gen.V_main_arg2 m c).symm),
    (Cert.ReferenceIdeal.Gen.V_main_arg4 m' c).trans (h4.trans (Cert.KernelIdeal.Gen.V_main_arg4 m c).symm)]

/-- equal codes, -/
theorem Q_eq : Cert.ReferenceIdeal.Gen.rQ m' c = Cert.KernelIdeal.Gen.kQ m c := by
  unfold Cert.ReferenceIdeal.Gen.rQ Cert.KernelIdeal.Gen.kQ
  rw [H_eq m m' c h0 h1 h2 h3 h4 h5]

/-- and equal scales. -/
theorem S_eq : Cert.ReferenceIdeal.Gen.rS m' c = Cert.KernelIdeal.Gen.kS m c := by
  unfold Cert.ReferenceIdeal.Gen.rS Cert.KernelIdeal.Gen.kS
  rw [H_eq m m' c h0 h1 h2 h3 h4 h5]

end Rows

/-- The kernel and the reference compute the same function over the extended reals. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Gen.kQ m c, fun c => Cert.KernelIdeal.Gen.kS m c, Cert.KernelIdeal.Gen.kernel_value m g, ?_⟩
  refine (θ_run _ _ _).mono (fun r hr c => ?_) (Cert.ReferenceIdeal.Gen.ref_value m' g')
  obtain ⟨h0, h1, h2, h3, h4, h5⟩ := h c
  obtain ⟨hq, hs, hrest⟩ := hr c
  exact ⟨hq.trans (Q_eq m m' c h0 h1 h2 h3 h4 h5), hs.trans (S_eq m m' c h0 h1 h2 h3 h4 h5), hrest⟩

end Cert.Agree

end
-- ==== Proof.RunMidP.lean ====
/- The kernel's body run at a grid point before the last, for the program before its values are idealized. -/
module

public import proofs.«01_k».proof.Proof.Gen.Kernel.Frame
public import proofs.«01_k».proof.Proof.Gen.Kernel.Skeleton
public import proofs.«01_k».proof.Proof.Gen.Kernel.Points
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1744000 in
/-- The pieces which the body's stores leave in each buffer at a grid point before the last (the matrix products of this point's block, and the
    codes of the block before), last store first, with the proof that the body runs from whole staging buffers to a state in which each buffer
    holds its pieces. The scratch buffers of the products and of the lane maxima are held at contents `xs0` and `xs1`. -/
noncomputable def runMid (c : Dev nD) (i : grid0.Coords) (arg1 : Memref sig .tc .vmem S1024x1664 .fp8e4m3) (harg1 : arg1.IsWhole) (arg2 : Memref sig .tc .vmem S1024x1 .f32) (harg2 : arg2.IsWhole) (arg3 : Memref sig .tc .vmem S1664x2560 .fp8e4m3) (harg3 : arg3.IsWhole) (arg4 : Memref sig .tc .vmem S1x2560 .f32) (harg4 : arg4.IsWhole) (arg5 : Memref sig .tc .vmem S1664x2560 .fp8e4m3) (harg5 : arg5.IsWhole) (arg6 : Memref sig .tc .vmem S1x2560 .f32) (harg6 : arg6.IsWhole) (arg7 : Memref sig .tc .vmem S1024x2560 .fp8e4m3) (harg7 : arg7.IsWhole) (arg8 : Memref sig .tc .vmem S1024x1 .f32) (harg8 : arg8.IsWhole) (arg9 : Memref sig .tc .vmem S1024x2560 .f32) (harg9 : arg9.IsWhole) (arg10 : Memref sig .tc .vmem S1024x128 .f32) (harg10 : arg10.IsWhole) (arg11 : Memref sig .tc .vmem S1024x128 .f32) (harg11 : arg11.IsWhole) (hc1 : k0_cond1 i = 1#1) (hc2 : ¬k0_cond2 i = 1#1)
    (x0 : Vec F S1024x1664 .fp8e4m3) (x1 : Vec F S1024x1 .f32) (x2 : Vec F S1664x2560 .fp8e4m3) (x3 : Vec F S1x2560 .f32) (x4 : Vec F S1664x2560 .fp8e4m3) (x5 : Vec F S1x2560 .f32) (xs0 : Vec F S1024x2560 .f32) (xs1 : Vec F S1024x128 .f32) :
    Σ' (L6 : List (View.Piece (Elt F) S1024x2560 .fp8e4m3)), Σ' (L7 : List (View.Piece (Elt F) S1024x1 .f32)), Σ' (LS0 : List (View.Piece (Elt F) S1024x2560 .f32)), Σ' (LS1 : List (View.Piece (Elt F) S1024x128 .f32)), { LT2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_swiglu_front i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_swiglu_front_eq_skeleton]; unfold cc0_swiglu_front_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    iexists _; iexact HS2

end Cert.Kernel.Gen

end
-- ==== Proof.RunLastP.lean ====
/- The kernel's body run at the last grid point, for the program before its values are idealized. -/
module

public import proofs.«01_k».proof.Proof.RunMidP

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The same at the last grid point, where the body only quantises the block before: the products and the lane maxima stay as they are. -/
noncomputable def runLast (c : Dev nD) (i : grid0.Coords) (arg1 : Memref sig .tc .vmem S1024x1664 .fp8e4m3) (harg1 : arg1.IsWhole) (arg2 : Memref sig .tc .vmem S1024x1 .f32) (harg2 : arg2.IsWhole) (arg3 : Memref sig .tc .vmem S1664x2560 .fp8e4m3) (harg3 : arg3.IsWhole) (arg4 : Memref sig .tc .vmem S1x2560 .f32) (harg4 : arg4.IsWhole) (arg5 : Memref sig .tc .vmem S1664x2560 .fp8e4m3) (harg5 : arg5.IsWhole) (arg6 : Memref sig .tc .vmem S1x2560 .f32) (harg6 : arg6.IsWhole) (arg7 : Memref sig .tc .vmem S1024x2560 .fp8e4m3) (harg7 : arg7.IsWhole) (arg8 : Memref sig .tc .vmem S1024x1 .f32) (harg8 : arg8.IsWhole) (arg9 : Memref sig .tc .vmem S1024x2560 .f32) (harg9 : arg9.IsWhole) (arg10 : Memref sig .tc .vmem S1024x128 .f32) (harg10 : arg10.IsWhole) (arg11 : Memref sig .tc .vmem S1024x128 .f32) (harg11 : arg11.IsWhole) (hc1 : ¬k0_cond1 i = 1#1) (hc2 : k0_cond2 i = 1#1)
    (x0 : Vec F S1024x1664 .fp8e4m3) (x1 : Vec F S1024x1 .f32) (x2 : Vec F S1664x2560 .fp8e4m3) (x3 : Vec F S1x2560 .f32) (x4 : Vec F S1664x2560 .fp8e4m3) (x5 : Vec F S1x2560 .f32) (xs0 : Vec F S1024x2560 .f32) (xs1 : Vec F S1024x128 .f32) :
    Σ' (L6 : List (View.Piece (Elt F) S1024x2560 .fp8e4m3)), Σ' (L7 : List (View.Piece (Elt F) S1024x1 .f32)), Σ' (LS0 : List (View.Piece (Elt F) S1024x2560 .f32)), Σ' (LS1 : List (View.Piece (Elt F) S1024x128 .f32)), { LT2 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ (∃ f, arg11.view.loc (c : Thread nD τ) ↦[arg11.view.set]{fullShare} arg11.view.writes (Elt F) f LT2)) -∗ K ⟨⟩))
          ⊢ wp frame (wpE (defs₀ (F := F)) Variants.none c none) E (cc0_swiglu_front i arg1 harg1 arg2 harg2 arg3 harg3 arg4 harg4 arg5 harg5 arg6 harg6 arg7 harg7 arg8 harg8 arg9 harg9 arg10 harg10 arg11 harg11) K } := by
  refine ⟨?_, ?_, [], [], ?_, fun E K => ?run⟩
  case run =>
    simp only [cc0_swiglu_front_eq_skeleton]; unfold cc0_swiglu_front_skel
    simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    iexists _; iexact HS2

end Cert.Kernel.Gen

end
-- ==== Proof.FrameRunP.lean ====
/- The kernel's frame: it ends, leaves its arguments as they were and every semaphore counter at zero, whatever the float type. Of the two outputs
   nothing is said here. -/
module

public import proofs.«01_k».proof.Proof.RunLastP
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`. -/
abbrev stg0 (t : Fin cfg0.N) : Memref sig .tc .vmem S1024x1664 .fp8e4m3 := win0_0.stage (cfg0.slots t 0)
abbrev stg1 (t : Fin cfg0.N) : Memref sig .tc .vmem S1024x1 .f32 := win0_1.stage (cfg0.slots t 1)
abbrev stg2 (t : Fin cfg0.N) : Memref sig .tc .vmem S1664x2560 .fp8e4m3 := win0_2.stage (cfg0.slots t 2)
abbrev stg3 (t : Fin cfg0.N) : Memref sig .tc .vmem S1x2560 .f32 := win0_3.stage (cfg0.slots t 3)
abbrev stg4 (t : Fin cfg0.N) : Memref sig .tc .vmem S1664x2560 .fp8e4m3 := win0_4.stage (cfg0.slots t 4)
abbrev stg5 (t : Fin cfg0.N) : Memref sig .tc .vmem S1x2560 .f32 := win0_5.stage (cfg0.slots t 5)
abbrev stg6 (t : Fin cfg0.N) : Memref sig .tc .vmem S1024x2560 .fp8e4m3 := win0_6.stage (cfg0.slots t 6)
abbrev stg7 (t : Fin cfg0.N) : Memref sig .tc .vmem S1024x1 .f32 := win0_7.stage (cfg0.slots t 7)

/-- The three scratch buffers: the products of a block, their lane maxima, and the inverse scales. -/
abbrev scr0 : Memref sig .tc .vmem S1024x2560 .f32 := Memref.whole cc0_scratch0
abbrev scr1 : Memref sig .tc .vmem S1024x128 .f32 := Memref.whole cc0_scratch1
abbrev scr2 : Memref sig .tc .vmem S1024x128 .f32 := Memref.whole cc0_scratch2

/-- The region's invariant with the scratch buffers as memrefs at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The body's branches: the first is taken at every point but the last, -/
theorem cond1_iff : ∀ t : Fin cfg0.N, k0_cond1 (grid0.coords t) = 1#1 ↔ t.val < 24 :=
  (by decide +kernel : ∀ t : Fin grid0.N, k0_cond1 (grid0.coords t) = 1#1 ↔ t.val < 24)
/-- and the second at the last. -/
theorem cond2_iff : ∀ t : Fin cfg0.N, k0_cond2 (grid0.coords t) = 1#1 ↔ ¬ t.val < 24 :=
  (by decide +kernel : ∀ t : Fin grid0.N, k0_cond2 (grid0.coords t) = 1#1 ↔ ¬ t.val < 24)

/-- Proof data which name what the inputs' buffers hold and nothing else. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
  Φ _ := Pipeline.ΦA spec0 c
  q _ := fullShare
  owed _ := 0

/-- The outputs of which nothing is said. -/
def fgt : Fin 8 → Bool := fun w => w.val == 6 || w.val == 7

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d

/-- The body at point `t`, from its windows one by one to its windows one by one. -/
theorem fsound (c : Dev nD) (t : Fin cfg0.N) :
    iprop(Pipeline.ΦA spec0 c ∗ (fdats m 0 c).owesAt () t.castSucc
    ∗ (∃ d, owns (c : Thread nD τ) (stg0 t) fullShare ((fdats m 0 c).before 0 t d))
    ∗ (∃ d, owns (c : Thread nD τ) (stg1 t) fullShare ((fdats m 0 c).before 1 t d))
    ∗ (∃ d, owns (c : Thread nD τ) (stg2 t) fullShare ((fdats m 0 c).before 2 t d))
    ∗ (∃ d, owns (c : Thread nD τ) (stg3 t) fullShare ((fdats m 0 c).before 3 t d))
    ∗ (∃ d, owns (c : Thread nD τ) (stg4 t) fullShare ((fdats m 0 c).before 4 t d))
    ∗ (∃ d, owns (c : Thread nD τ) (stg5 t) fullShare ((fdats m 0 c).before 5 t d))
    ∗ (∃ d, owns (c : Thread nD τ) (stg6 t) fullShare d)
    ∗ (∃ d, owns (c : Thread nD τ) (stg7 t) fullShare d))
    ⊢ wp frame (wpE (defs₀ (F := F)) Variants.none c none) Set.univ (bodyAt0 t) (fun _ => iprop(Pipeline.ΦA spec0 c ∗ (fdats m 0 c).owesAt () t.castSucc
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ (∃ d, owns (c : Thread nD τ) (stg6 t) fullShare d)
    ∗ (∃ d, owns (c : Thread nD τ) (stg7 t) fullShare d))) := by
  unfold bodyAt0
  simp only [fbefore_0, fbefore_1, fbefore_2, fbefore_3, fbefore_4, fbefore_5]
  rw [PhiA_eq]
  by_cases h1 : t.val < 24
  · have h2 : ¬ k0_cond2 (grid0.coords t) = 1#1 := fun h => (cond2_iff t).mp h h1
    iintro ⟨⟨⟨⟨%s0, HS0⟩, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runMid c (grid0.coords t) _ _ _ _ _ _ _ _ _ _ _ _ _ _ _ _ _ _ _ _ _ _ ((cond1_iff t).mpr h1) h2 (iblk m c 0 t) (iblk m c 1 t) (iblk m c 2 t) (iblk m c 3 t) (iblk m c 4 t) (iblk m c 5 t) s0 s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, ⟨%es0, HS0⟩, ⟨%es1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr
      swap; · iexact H6
      ipureintro; rfl
    iexists _; unfold owns; iexists _; isplitr
    swap; · iexact H7
    ipureintro; rfl
  · have h2 : ¬ k0_cond1 (grid0.coords t) = 1#1 := fun h => h1 ((cond1_iff t).mp h)
    iintro ⟨⟨⟨⟨%s0, HS0⟩, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLast c (grid0.coords t) _ _ _ _ _ _ _ _ _ _ _ _ _ _ _ _ _ _ _ _ _ _ h2 ((cond2_iff t).mpr h1) (iblk m c 0 t) (iblk m c 1 t) (iblk m c 2 t) (iblk m c 3 t) (iblk m c 4 t) (iblk m c 5 t) s0 s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, HS0, HS1, ⟨%fT2, HS2⟩⟩
    isplitl [HS0 HS1 HS2 Hg]
    · isplitl [HS0 HS1 HS2]
      · isplitl [HS0]
        · iexists _; iexact HS0
        isplitl [HS1]
        · iexists _; iexact HS1
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr
      swap; · iexact H6
      ipureintro; rfl
    iexists _; unfold owns; iexists _; isplitr
    swap; · iexact H7
    ipureintro; rfl

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem fbody (c : Dev nD) : Pipeline.BodyObligationLoose (fdats (F := F) m 0 c) (defs₀ (F := F)) Variants.none () Set.univ fgt := fun t => by
  rw [bigSep_W0, bigSep_W0, defs₀_row]
  exact triple_restated (fsound m c t) rfl .rfl fun _ => .rfl

set_option backward.isDefEq.respectTransparency.types false in
/-- The run of `main`: what the inputs' arrays and the buffers outside the region hold at the end, and the counters. -/
theorem frun : θ_run defs (onTc (τ := τ) (main (F := F))) (s₀ m ρ) (fun r => Pipeline.RDat.FramePost cfg0 (fun c => (fdats m 0 c).toRForget fgt) (V m) r ∧ r.2.sem = fun _ => 0) :=
  Pipeline.θ_run_frame_track_forget (Q' := _) cfgs (fdats m) (0 : Fin 1) launch0 defs₀ Variants.none fgt m ρ main
    (hbody := fun c => fbody m c) (hshare := fun c => (fdats m 0 c).share_full fun _ => rfl)
    (howed := fun _ _ => rfl) (V := V m) (hmain := hmain m Variants.none) (hA := fA_eq m) (hin := fun _ => .rfl) (hout := fun _ => .rfl)

/-- The kernel ends with its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((fA_eq m c 2).trans (V_main_arg2 m c)),
      ((h.1 c).2 main_arg3 (Pipeline.mem_restRefs_of main_arg3 (by decide) (by decide))).trans (V_main_arg3 m c),
      (h.1.arr_in c 4 rfl).trans ((fA_eq m c 4).trans (V_main_arg4 m c)),
      ((h.1 c).2 main_arg5 (Pipeline.mem_restRefs_of main_arg5 (by decide) (by decide))).trans (V_main_arg5 m c)⟩, h.2⟩) (frun m ρ)

end Cert.Kernel.Gen

end
-- ==== Proof.lean ====
/- The proof of the claims: a frame for the kernel, its idealization and the idealized reference, that the idealization preserves the
   kernel, and that kernel and reference compute the same function over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameRun
public import proofs.«01_k».proof.Proof.Agree
public import proofs.«01_k».proof.Proof.FrameRunP
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ, trivial, Cert.Agree.algebraic⟩

end Cert.Proof

end
